-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x8192 : Shape := ⟨2, ![4096, 8192]⟩
abbrev S256x8192 : Shape := ⟨2, ![256, 8192]⟩
abbrev S16x256x256 : Shape := ⟨3, ![16, 256, 256]⟩
abbrev S3x256x8192 : Shape := ⟨3, ![3, 256, 8192]⟩
abbrev S3 : Shape := ⟨1, ![3]⟩
abbrev S16 : Shape := ⟨1, ![16]⟩
abbrev S_ : Shape := ⟨0, ![]⟩
abbrev S1 : Shape := ⟨1, ![1]⟩
abbrev S1x256x256 : Shape := ⟨3, ![1, 256, 256]⟩
abbrev S256x256 : Shape := ⟨2, ![256, 256]⟩
abbrev S1x256x8192 : Shape := ⟨3, ![1, 256, 8192]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x8192, .f32⟩
  | .hbm, ⟨2, _⟩ => ⟨S256x8192, .f32⟩
  | .local _ .vmem, ⟨0, _⟩ => ⟨S4096x256, .f32⟩
  | .local _ .vmem, ⟨1, _⟩ => ⟨S256x8192, .f32⟩
  | .local _ .vmem, ⟨2, _⟩ => ⟨S4096x256, .bf16⟩
  | .local _ .vmem, ⟨3, _⟩ => ⟨S16x256x256, .bf16⟩
  | .local _ .vmem, ⟨4, _⟩ => ⟨S3x256x8192, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_88 : BitVec 32 := 1#32
  let v118 : BitVec 32 := Scalar.addi v2 c1_i32_88
  let c16_i32_89 : BitVec 32 := 16#32
  let v119 : BitVec 32 := Scalar.remsi v118 c16_i32_89
  let c1_i32_91 : BitVec 32 := 1#32
  let v120 : BitVec 32 := Scalar.muli v119 c1_i32_91
  let v121 : BitVec 32 := Scalar.addi c0_i32_92 v120
  v121.toNat
def k0_dev2 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_93 : BitVec 32 := 2#32
  let v122 : BitVec 32 := Scalar.addi v2 c2_i32_93
  let c16_i32_94 : BitVec 32 := 16#32
  let v123 : BitVec 32 := Scalar.remsi v122 c16_i32_94
  let c1_i32_96 : BitVec 32 := 1#32
  let v124 : BitVec 32 := Scalar.muli v123 c1_i32_96
  let v125 : BitVec 32 := Scalar.addi c0_i32_97 v124
  v125.toNat
def k0_dev3 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_98 : BitVec 32 := 3#32
  let v126 : BitVec 32 := Scalar.addi v2 c3_i32_98
  let c16_i32_99 : BitVec 32 := 16#32
  let v127 : BitVec 32 := Scalar.remsi v126 c16_i32_99
  let c1_i32_101 : BitVec 32 := 1#32
  let v128 : BitVec 32 := Scalar.muli v127 c1_i32_101
  let v129 : BitVec 32 := Scalar.addi c0_i32_102 v128
  v129.toNat
def k0_dev4 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_103 : BitVec 32 := 4#32
  let v130 : BitVec 32 := Scalar.addi v2 c4_i32_103
  let c16_i32_104 : BitVec 32 := 16#32
  let v131 : BitVec 32 := Scalar.remsi v130 c16_i32_104
  let c1_i32_106 : BitVec 32 := 1#32
  let v132 : BitVec 32 := Scalar.muli v131 c1_i32_106
  let v133 : BitVec 32 := Scalar.addi c0_i32_107 v132
  v133.toNat
def k0_dev5 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v134 : BitVec 32 := Scalar.addi v2 c5_i32
  let c16_i32_108 : BitVec 32 := 16#32
  let v135 : BitVec 32 := Scalar.remsi v134 c16_i32_108
  let c1_i32_110 : BitVec 32 := 1#32
  let v136 : BitVec 32 := Scalar.muli v135 c1_i32_110
  let v137 : BitVec 32 := Scalar.addi c0_i32_111 v136
  v137.toNat
def k0_dev6 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v138 : BitVec 32 := Scalar.addi v2 c6_i32
  let c16_i32_112 : BitVec 32 := 16#32
  let v139 : BitVec 32 := Scalar.remsi v138 c16_i32_112
  let c1_i32_114 : BitVec 32 := 1#32
  let v140 : BitVec 32 := Scalar.muli v139 c1_i32_114
  let v141 : BitVec 32 := Scalar.addi c0_i32_115 v140
  v141.toNat
def k0_dev7 (d0 : Dev nD) : Nat :=
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v142 : BitVec 32 := Scalar.addi v2 c7_i32
  let c16_i32_116 : BitVec 32 := 16#32
  let v143 : BitVec 32 := Scalar.remsi v142 c16_i32_116
  let c1_i32_118 : BitVec 32 := 1#32
  let v144 : BitVec 32 := Scalar.muli v143 c1_i32_118
  let v145 : BitVec 32 := Scalar.addi c0_i32_119 v144
  v145.toNat
def k0_dev8 (d0 : Dev nD) : Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v146 : BitVec 32 := Scalar.addi v2 c8_i32
  let c16_i32_120 : BitVec 32 := 16#32
  let v147 : BitVec 32 := Scalar.remsi v146 c16_i32_120
  let c1_i32_122 : BitVec 32 := 1#32
  let v148 : BitVec 32 := Scalar.muli v147 c1_i32_122
  let v149 : BitVec 32 := Scalar.addi c0_i32_123 v148
  v149.toNat
def k0_dev9 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v150 : BitVec 32 := Scalar.addi v2 c9_i32
  let c16_i32_124 : BitVec 32 := 16#32
  let v151 : BitVec 32 := Scalar.remsi v150 c16_i32_124
  let c1_i32_126 : BitVec 32 := 1#32
  let v152 : BitVec 32 := Scalar.muli v151 c1_i32_126
  let v153 : BitVec 32 := Scalar.addi c0_i32_127 v152
  v153.toNat
def k0_dev10 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v154 : BitVec 32 := Scalar.addi v2 c10_i32
  let c16_i32_128 : BitVec 32 := 16#32
  let v155 : BitVec 32 := Scalar.remsi v154 c16_i32_128
  let c1_i32_130 : BitVec 32 := 1#32
  let v156 : BitVec 32 := Scalar.muli v155 c1_i32_130
  let v157 : BitVec 32 := Scalar.addi c0_i32_131 v156
  v157.toNat
def k0_dev11 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v158 : BitVec 32 := Scalar.addi v2 c11_i32
  let c16_i32_132 : BitVec 32 := 16#32
  let v159 : BitVec 32 := Scalar.remsi v158 c16_i32_132
  let c1_i32_134 : BitVec 32 := 1#32
  let v160 : BitVec 32 := Scalar.muli v159 c1_i32_134
  let v161 : BitVec 32 := Scalar.addi c0_i32_135 v160
  v161.toNat
def k0_dev12 (d0 : Dev nD) : Nat :=
  let c0_i32_139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v162 : BitVec 32 := Scalar.addi v2 c12_i32
  let c16_i32_136 : BitVec 32 := 16#32
  let v163 : BitVec 32 := Scalar.remsi v162 c16_i32_136
  let c1_i32_138 : BitVec 32 := 1#32
  let v164 : BitVec 32 := Scalar.muli v163 c1_i32_138
  let v165 : BitVec 32 := Scalar.addi c0_i32_139 v164
  v165.toNat
def k0_dev13 (d0 : Dev nD) : Nat :=
  let c0_i32_143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v166 : BitVec 32 := Scalar.addi v2 c13_i32
  let c16_i32_140 : BitVec 32 := 16#32
  let v167 : BitVec 32 := Scalar.remsi v166 c16_i32_140
  let c1_i32_142 : BitVec 32 := 1#32
  let v168 : BitVec 32 := Scalar.muli v167 c1_i32_142
  let v169 : BitVec 32 := Scalar.addi c0_i32_143 v168
  v169.toNat
def k0_dev14 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v170 : BitVec 32 := Scalar.addi v2 c14_i32
  let c16_i32_144 : BitVec 32 := 16#32
  let v171 : BitVec 32 := Scalar.remsi v170 c16_i32_144
  let c1_i32_146 : BitVec 32 := 1#32
  let v172 : BitVec 32 := Scalar.muli v171 c1_i32_146
  let v173 : BitVec 32 := Scalar.addi c0_i32_147 v172
  v173.toNat
def k0_dev15 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v174 : BitVec 32 := Scalar.addi v2 c15_i32
  let c16_i32_148 : BitVec 32 := 16#32
  let v175 : BitVec 32 := Scalar.remsi v174 c16_i32_148
  let c1_i32_150 : BitVec 32 := 1#32
  let v176 : BitVec 32 := Scalar.muli v175 c1_i32_150
  let v177 : BitVec 32 := Scalar.addi c0_i32_151 v176
  v177.toNat
def k0_off1 (d0 : Dev nD) (c3_i32_12 : BitVec 32) (c2_i32_11 : BitVec 32) (c1_i32_10 : BitVec 32) (c0_i32_7 : BitVec 32) (c1_i32_17 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v27 : BitVec 1 := Scalar.cmpi .eq v19 c3_i32
  let c2_i32 : BitVec 32 := 2#32
  let v25 : BitVec 1 := Scalar.cmpi .eq v19 c2_i32
  let c1_i32_9 : BitVec 32 := 1#32
  let v23 : BitVec 1 := Scalar.cmpi .eq v19 c1_i32_9
  let c0_i32_6 : BitVec 32 := 0#32
  let v21 : BitVec 1 := Scalar.cmpi .eq v19 c0_i32_6
  let c0_i32_8 : BitVec 32 := 0#32
  let v22 : BitVec 32 := Scalar.select v21 c0_i32_7 c0_i32_8
  let v24 : BitVec 32 := Scalar.select v23 c1_i32_10 v22
  let v26 : BitVec 32 := Scalar.select v25 c2_i32_11 v24
  let v28 : BitVec 32 := Scalar.select v27 c3_i32_12 v26
  let c4_i32_16 : BitVec 32 := 4#32
  let v33 : BitVec 32 := Scalar.muli v28 c4_i32_16
  let c4_i32_5 : BitVec 32 := 4#32
  let v20 : BitVec 32 := Scalar.remsi v2 c4_i32_5
  let v34 : BitVec 32 := Scalar.addi v20 c1_i32_17
  let c4_i32_18 : BitVec 32 := 4#32
  let v35 : BitVec 32 := Scalar.remsi v34 c4_i32_18
  let v36 : BitVec 32 := Scalar.addi v33 v35
  ![v36.toNat]
def k0_off1_at (r : Fin 15) : BitVec 32 × BitVec 32 × BitVec 32 × BitVec 32 × BitVec 32 :=
  if r.val < 7 then
    if r.val < 3 then
      if r.val < 1 then
        (3#32, 2#32, 1#32, 0#32, 1#32)
      else
        if r.val < 2 then
          (3#32, 2#32, 1#32, 0#32, 3#32)
        else
          (3#32, 2#32, 1#32, 0#32, 2#32)
    else
      if r.val < 5 then
        if r.val < 4 then
          (2#32, 3#32, 0#32, 1#32, 0#32)
        else
          (2#32, 3#32, 0#32, 1#32, 1#32)
      else
        if r.val < 6 then
          (2#32, 3#32, 0#32, 1#32, 3#32)
        else
          (2#32, 3#32, 0#32, 1#32, 2#32)
  else
    if r.val < 11 then
      if r.val < 9 then
        if r.val < 8 then
          (1#32, 1#32, 2#32, 2#32, 0#32)
        else
          (1#32, 1#32, 2#32, 2#32, 1#32)
      else
        if r.val < 10 then
          (1#32, 1#32, 2#32, 2#32, 3#32)
        else
          (1#32, 1#32, 2#32, 2#32, 2#32)
    else
      if r.val < 13 then
        if r.val < 12 then
          (0#32, 0#32, 3#32, 3#32, 0#32)
        else
          (0#32, 0#32, 3#32, 3#32, 1#32)
      else
        if r.val < 14 then
          (0#32, 0#32, 3#32, 3#32, 3#32)
        else
          (0#32, 0#32, 3#32, 3#32, 2#32)
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_158 : BitVec 32 := 0#32
  let c0_i32_159 : BitVec 32 := 0#32
  ![v2.toNat, 0, 0]
def k0_off4 (d0 : Dev nD) (c3_i32_12 : BitVec 32) (c2_i32_11 : BitVec 32) (c1_i32_10 : BitVec 32) (c0_i32_7 : BitVec 32) (c1_i32_17 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v27 : BitVec 1 := Scalar.cmpi .eq v19 c3_i32
  let c2_i32 : BitVec 32 := 2#32
  let v25 : BitVec 1 := Scalar.cmpi .eq v19 c2_i32
  let c1_i32_9 : BitVec 32 := 1#32
  let v23 : BitVec 1 := Scalar.cmpi .eq v19 c1_i32_9
  let c0_i32_6 : BitVec 32 := 0#32
  let v21 : BitVec 1 := Scalar.cmpi .eq v19 c0_i32_6
  let c0_i32_8 : BitVec 32 := 0#32
  let v22 : BitVec 32 := Scalar.select v21 c0_i32_7 c0_i32_8
  let v24 : BitVec 32 := Scalar.select v23 c1_i32_10 v22
  let v26 : BitVec 32 := Scalar.select v25 c2_i32_11 v24
  let v28 : BitVec 32 := Scalar.select v27 c3_i32_12 v26
  let c4_i32_16 : BitVec 32 := 4#32
  let v33 : BitVec 32 := Scalar.muli v28 c4_i32_16
  let c4_i32_5 : BitVec 32 := 4#32
  let v20 : BitVec 32 := Scalar.remsi v2 c4_i32_5
  let v34 : BitVec 32 := Scalar.addi v20 c1_i32_17
  let c4_i32_18 : BitVec 32 := 4#32
  let v35 : BitVec 32 := Scalar.remsi v34 c4_i32_18
  let v36 : BitVec 32 := Scalar.addi v33 v35
  let c256_i32 : BitVec 32 := 256#32
  let v184 : BitVec 32 := Scalar.muli v36 c256_i32
  let c0_i32_160 : BitVec 32 := 0#32
  ![v184.toNat, 0]
def k0_off4_at (r : Fin 15) : BitVec 32 × BitVec 32 × BitVec 32 × BitVec 32 × BitVec 32 :=
  if r.val < 7 then
    if r.val < 3 then
      if r.val < 1 then
        (3#32, 2#32, 1#32, 0#32, 1#32)
      else
        if r.val < 2 then
          (3#32, 2#32, 1#32, 0#32, 3#32)
        else
          (3#32, 2#32, 1#32, 0#32, 2#32)
    else
      if r.val < 5 then
        if r.val < 4 then
          (2#32, 3#32, 0#32, 1#32, 0#32)
        else
          (2#32, 3#32, 0#32, 1#32, 1#32)
      else
        if r.val < 6 then
          (2#32, 3#32, 0#32, 1#32, 3#32)
        else
          (2#32, 3#32, 0#32, 1#32, 2#32)
  else
    if r.val < 11 then
      if r.val < 9 then
        if r.val < 8 then
          (1#32, 1#32, 2#32, 2#32, 0#32)
        else
          (1#32, 1#32, 2#32, 2#32, 1#32)
      else
        if r.val < 10 then
          (1#32, 1#32, 2#32, 2#32, 3#32)
        else
          (1#32, 1#32, 2#32, 2#32, 2#32)
    else
      if r.val < 13 then
        if r.val < 12 then
          (0#32, 0#32, 3#32, 3#32, 0#32)
        else
          (0#32, 0#32, 3#32, 3#32, 1#32)
      else
        if r.val < 14 then
          (0#32, 0#32, 3#32, 3#32, 3#32)
        else
          (0#32, 0#32, 3#32, 3#32, 2#32)
def k0_dev16 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v27 : BitVec 1 := Scalar.cmpi .eq v19 c3_i32
  let c3_i32_12 : BitVec 32 := 3#32
  let c2_i32 : BitVec 32 := 2#32
  let v25 : BitVec 1 := Scalar.cmpi .eq v19 c2_i32
  let c2_i32_11 : BitVec 32 := 2#32
  let c1_i32_9 : BitVec 32 := 1#32
  let v23 : BitVec 1 := Scalar.cmpi .eq v19 c1_i32_9
  let c1_i32_10 : BitVec 32 := 1#32
  let c0_i32_6 : BitVec 32 := 0#32
  let v21 : BitVec 1 := Scalar.cmpi .eq v19 c0_i32_6
  let c0_i32_7 : BitVec 32 := 0#32
  let c0_i32_8 : BitVec 32 := 0#32
  let v22 : BitVec 32 := Scalar.select v21 c0_i32_7 c0_i32_8
  let v24 : BitVec 32 := Scalar.select v23 c1_i32_10 v22
  let v26 : BitVec 32 := Scalar.select v25 c2_i32_11 v24
  let v28 : BitVec 32 := Scalar.select v27 c3_i32_12 v26
  let c4_i32_16 : BitVec 32 := 4#32
  let v33 : BitVec 32 := Scalar.muli v28 c4_i32_16
  let c4_i32_5 : BitVec 32 := 4#32
  let v20 : BitVec 32 := Scalar.remsi v2 c4_i32_5
  let c1_i32_17 : BitVec 32 := 1#32
  let v34 : BitVec 32 := Scalar.addi v20 c1_i32_17
  let c4_i32_18 : BitVec 32 := 4#32
  let v35 : BitVec 32 := Scalar.remsi v34 c4_i32_18
  let v36 : BitVec 32 := Scalar.addi v33 v35
  let c1_i32_156 : BitVec 32 := 1#32
  let v185 : BitVec 32 := Scalar.muli v36 c1_i32_156
  let v186 : BitVec 32 := Scalar.addi c0_i32_157 v185
  v186.toNat
def k0_dev17 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v27 : BitVec 1 := Scalar.cmpi .eq v19 c3_i32
  let c3_i32_12 : BitVec 32 := 3#32
  let c2_i32 : BitVec 32 := 2#32
  let v25 : BitVec 1 := Scalar.cmpi .eq v19 c2_i32
  let c2_i32_11 : BitVec 32 := 2#32
  let c1_i32_9 : BitVec 32 := 1#32
  let v23 : BitVec 1 := Scalar.cmpi .eq v19 c1_i32_9
  let c1_i32_10 : BitVec 32 := 1#32
  let c0_i32_6 : BitVec 32 := 0#32
  let v21 : BitVec 1 := Scalar.cmpi .eq v19 c0_i32_6
  let c0_i32_7 : BitVec 32 := 0#32
  let c0_i32_8 : BitVec 32 := 0#32
  let v22 : BitVec 32 := Scalar.select v21 c0_i32_7 c0_i32_8
  let v24 : BitVec 32 := Scalar.select v23 c1_i32_10 v22
  let v26 : BitVec 32 := Scalar.select v25 c2_i32_11 v24
  let v28 : BitVec 32 := Scalar.select v27 c3_i32_12 v26
  let c4_i32_19 : BitVec 32 := 4#32
  let v37 : BitVec 32 := Scalar.muli v28 c4_i32_19
  let c4_i32_5 : BitVec 32 := 4#32
  let v20 : BitVec 32 := Scalar.remsi v2 c4_i32_5
  let c3_i32_20 : BitVec 32 := 3#32
  let v38 : BitVec 32 := Scalar.addi v20 c3_i32_20
  let c4_i32_21 : BitVec 32 := 4#32
  let v39 : BitVec 32 := Scalar.remsi v38 c4_i32_21
  let v40 : BitVec 32 := Scalar.addi v37 v39
  let c1_i32_162 : BitVec 32 := 1#32
  let v195 : BitVec 32 := Scalar.muli v40 c1_i32_162
  let v196 : BitVec 32 := Scalar.addi c0_i32_163 v195
  v196.toNat
def k0_dev18 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v27 : BitVec 1 := Scalar.cmpi .eq v19 c3_i32
  let c3_i32_12 : BitVec 32 := 3#32
  let c2_i32 : BitVec 32 := 2#32
  let v25 : BitVec 1 := Scalar.cmpi .eq v19 c2_i32
  let c2_i32_11 : BitVec 32 := 2#32
  let c1_i32_9 : BitVec 32 := 1#32
  let v23 : BitVec 1 := Scalar.cmpi .eq v19 c1_i32_9
  let c1_i32_10 : BitVec 32 := 1#32
  let c0_i32_6 : BitVec 32 := 0#32
  let v21 : BitVec 1 := Scalar.cmpi .eq v19 c0_i32_6
  let c0_i32_7 : BitVec 32 := 0#32
  let c0_i32_8 : BitVec 32 := 0#32
  let v22 : BitVec 32 := Scalar.select v21 c0_i32_7 c0_i32_8
  let v24 : BitVec 32 := Scalar.select v23 c1_i32_10 v22
  let v26 : BitVec 32 := Scalar.select v25 c2_i32_11 v24
  let v28 : BitVec 32 := Scalar.select v27 c3_i32_12 v26
  let c4_i32_22 : BitVec 32 := 4#32
  let v41 : BitVec 32 := Scalar.muli v28 c4_i32_22
  let c4_i32_5 : BitVec 32 := 4#32
  let v20 : BitVec 32 := Scalar.remsi v2 c4_i32_5
  let c2_i32_23 : BitVec 32 := 2#32
  let v42 : BitVec 32 := Scalar.addi v20 c2_i32_23
  let c4_i32_24 : BitVec 32 := 4#32
  let v43 : BitVec 32 := Scalar.remsi v42 c4_i32_24
  let v44 : BitVec 32 := Scalar.addi v41 v43
  let c1_i32_168 : BitVec 32 := 1#32
  let v205 : BitVec 32 := Scalar.muli v44 c1_i32_168
  let v206 : BitVec 32 := Scalar.addi c0_i32_169 v205
  v206.toNat
def k0_dev19 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_32 : BitVec 32 := 3#32
  let v51 : BitVec 1 := Scalar.cmpi .eq v19 c3_i32_32
  let c2_i32_33 : BitVec 32 := 2#32
  let c2_i32_30 : BitVec 32 := 2#32
  let v49 : BitVec 1 := Scalar.cmpi .eq v19 c2_i32_30
  let c3_i32_31 : BitVec 32 := 3#32
  let c1_i32_28 : BitVec 32 := 1#32
  let v47 : BitVec 1 := Scalar.cmpi .eq v19 c1_i32_28
  let c0_i32_29 : BitVec 32 := 0#32
  let c0_i32_25 : BitVec 32 := 0#32
  let v45 : BitVec 1 := Scalar.cmpi .eq v19 c0_i32_25
  let c1_i32_26 : BitVec 32 := 1#32
  let c0_i32_27 : BitVec 32 := 0#32
  let v46 : BitVec 32 := Scalar.select v45 c1_i32_26 c0_i32_27
  let v48 : BitVec 32 := Scalar.select v47 c0_i32_29 v46
  let v50 : BitVec 32 := Scalar.select v49 c3_i32_31 v48
  let v52 : BitVec 32 := Scalar.select v51 c2_i32_33 v50
  let c4_i32_34 : BitVec 32 := 4#32
  let v53 : BitVec 32 := Scalar.muli v52 c4_i32_34
  let c4_i32_5 : BitVec 32 := 4#32
  let v20 : BitVec 32 := Scalar.remsi v2 c4_i32_5
  let c0_i32_35 : BitVec 32 := 0#32
  let v54 : BitVec 32 := Scalar.addi v20 c0_i32_35
  let c4_i32_36 : BitVec 32 := 4#32
  let v55 : BitVec 32 := Scalar.remsi v54 c4_i32_36
  let v56 : BitVec 32 := Scalar.addi v53 v55
  let c1_i32_174 : BitVec 32 := 1#32
  let v215 : BitVec 32 := Scalar.muli v56 c1_i32_174
  let v216 : BitVec 32 := Scalar.addi c0_i32_175 v215
  v216.toNat
def k0_dev20 (d0 : Dev nD) : Nat :=
  let c0_i32_181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_32 : BitVec 32 := 3#32
  let v51 : BitVec 1 := Scalar.cmpi .eq v19 c3_i32_32
  let c2_i32_33 : BitVec 32 := 2#32
  let c2_i32_30 : BitVec 32 := 2#32
  let v49 : BitVec 1 := Scalar.cmpi .eq v19 c2_i32_30
  let c3_i32_31 : BitVec 32 := 3#32
  let c1_i32_28 : BitVec 32 := 1#32
  let v47 : BitVec 1 := Scalar.cmpi .eq v19 c1_i32_28
  let c0_i32_29 : BitVec 32 := 0#32
  let c0_i32_25 : BitVec 32 := 0#32
  let v45 : BitVec 1 := Scalar.cmpi .eq v19 c0_i32_25
  let c1_i32_26 : BitVec 32 := 1#32
  let c0_i32_27 : BitVec 32 := 0#32
  let v46 : BitVec 32 := Scalar.select v45 c1_i32_26 c0_i32_27
  let v48 : BitVec 32 := Scalar.select v47 c0_i32_29 v46
  let v50 : BitVec 32 := Scalar.select v49 c3_i32_31 v48
  let v52 : BitVec 32 := Scalar.select v51 c2_i32_33 v50
  let c4_i32_37 : BitVec 32 := 4#32
  let v57 : BitVec 32 := Scalar.muli v52 c4_i32_37
  let c4_i32_5 : BitVec 32 := 4#32
  let v20 : BitVec 32 := Scalar.remsi v2 c4_i32_5
  let c1_i32_38 : BitVec 32 := 1#32
  let v58 : BitVec 32 := Scalar.addi v20 c1_i32_38
  let c4_i32_39 : BitVec 32 := 4#32
  let v59 : BitVec 32 := Scalar.remsi v58 c4_i32_39
  let v60 : BitVec 32 := Scalar.addi v57 v59
  let c1_i32_180 : BitVec 32 := 1#32
  let v225 : BitVec 32 := Scalar.muli v60 c1_i32_180
  let v226 : BitVec 32 := Scalar.addi c0_i32_181 v225
  v226.toNat
def k0_dev21 (d0 : Dev nD) : Nat :=
  let c0_i32_187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_32 : BitVec 32 := 3#32
  let v51 : BitVec 1 := Scalar.cmpi .eq v19 c3_i32_32
  let c2_i32_33 : BitVec 32 := 2#32
  let c2_i32_30 : BitVec 32 := 2#32
  let v49 : BitVec 1 := Scalar.cmpi .eq v19 c2_i32_30
  let c3_i32_31 : BitVec 32 := 3#32
  let c1_i32_28 : BitVec 32 := 1#32
  let v47 : BitVec 1 := Scalar.cmpi .eq v19 c1_i32_28
  let c0_i32_29 : BitVec 32 := 0#32
  let c0_i32_25 : BitVec 32 := 0#32
  let v45 : BitVec 1 := Scalar.cmpi .eq v19 c0_i32_25
  let c1_i32_26 : BitVec 32 := 1#32
  let c0_i32_27 : BitVec 32 := 0#32
  let v46 : BitVec 32 := Scalar.select v45 c1_i32_26 c0_i32_27
  let v48 : BitVec 32 := Scalar.select v47 c0_i32_29 v46
  let v50 : BitVec 32 := Scalar.select v49 c3_i32_31 v48
  let v52 : BitVec 32 := Scalar.select v51 c2_i32_33 v50
  let c4_i32_40 : BitVec 32 := 4#32
  let v61 : BitVec 32 := Scalar.muli v52 c4_i32_40
  let c4_i32_5 : BitVec 32 := 4#32
  let v20 : BitVec 32 := Scalar.remsi v2 c4_i32_5
  let c3_i32_41 : BitVec 32 := 3#32
  let v62 : BitVec 32 := Scalar.addi v20 c3_i32_41
  let c4_i32_42 : BitVec 32 := 4#32
  let v63 : BitVec 32 := Scalar.remsi v62 c4_i32_42
  let v64 : BitVec 32 := Scalar.addi v61 v63
  let c1_i32_186 : BitVec 32 := 1#32
  let v235 : BitVec 32 := Scalar.muli v64 c1_i32_186
  let v236 : BitVec 32 := Scalar.addi c0_i32_187 v235
  v236.toNat
def k0_dev22 (d0 : Dev nD) : Nat :=
  let c0_i32_193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_32 : BitVec 32 := 3#32
  let v51 : BitVec 1 := Scalar.cmpi .eq v19 c3_i32_32
  let c2_i32_33 : BitVec 32 := 2#32
  let c2_i32_30 : BitVec 32 := 2#32
  let v49 : BitVec 1 := Scalar.cmpi .eq v19 c2_i32_30
  let c3_i32_31 : BitVec 32 := 3#32
  let c1_i32_28 : BitVec 32 := 1#32
  let v47 : BitVec 1 := Scalar.cmpi .eq v19 c1_i32_28
  let c0_i32_29 : BitVec 32 := 0#32
  let c0_i32_25 : BitVec 32 := 0#32
  let v45 : BitVec 1 := Scalar.cmpi .eq v19 c0_i32_25
  let c1_i32_26 : BitVec 32 := 1#32
  let c0_i32_27 : BitVec 32 := 0#32
  let v46 : BitVec 32 := Scalar.select v45 c1_i32_26 c0_i32_27
  let v48 : BitVec 32 := Scalar.select v47 c0_i32_29 v46
  let v50 : BitVec 32 := Scalar.select v49 c3_i32_31 v48
  let v52 : BitVec 32 := Scalar.select v51 c2_i32_33 v50
  let c4_i32_43 : BitVec 32 := 4#32
  let v65 : BitVec 32 := Scalar.muli v52 c4_i32_43
  let c4_i32_5 : BitVec 32 := 4#32
  let v20 : BitVec 32 := Scalar.remsi v2 c4_i32_5
  let c2_i32_44 : BitVec 32 := 2#32
  let v66 : BitVec 32 := Scalar.addi v20 c2_i32_44
  let c4_i32_45 : BitVec 32 := 4#32
  let v67 : BitVec 32 := Scalar.remsi v66 c4_i32_45
  let v68 : BitVec 32 := Scalar.addi v65 v67
  let c1_i32_192 : BitVec 32 := 1#32
  let v245 : BitVec 32 := Scalar.muli v68 c1_i32_192
  let v246 : BitVec 32 := Scalar.addi c0_i32_193 v245
  v246.toNat
def k0_dev23 (d0 : Dev nD) : Nat :=
  let c0_i32_199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_53 : BitVec 32 := 3#32
  let v75 : BitVec 1 := Scalar.cmpi .eq v19 c3_i32_53
  let c1_i32_54 : BitVec 32 := 1#32
  let c2_i32_51 : BitVec 32 := 2#32
  let v73 : BitVec 1 := Scalar.cmpi .eq v19 c2_i32_51
  let c1_i32_52 : BitVec 32 := 1#32
  let c1_i32_49 : BitVec 32 := 1#32
  let v71 : BitVec 1 := Scalar.cmpi .eq v19 c1_i32_49
  let c2_i32_50 : BitVec 32 := 2#32
  let c0_i32_46 : BitVec 32 := 0#32
  let v69 : BitVec 1 := Scalar.cmpi .eq v19 c0_i32_46
  let c2_i32_47 : BitVec 32 := 2#32
  let c0_i32_48 : BitVec 32 := 0#32
  let v70 : BitVec 32 := Scalar.select v69 c2_i32_47 c0_i32_48
  let v72 : BitVec 32 := Scalar.select v71 c2_i32_50 v70
  let v74 : BitVec 32 := Scalar.select v73 c1_i32_52 v72
  let v76 : BitVec 32 := Scalar.select v75 c1_i32_54 v74
  let c4_i32_55 : BitVec 32 := 4#32
  let v77 : BitVec 32 := Scalar.muli v76 c4_i32_55
  let c4_i32_5 : BitVec 32 := 4#32
  let v20 : BitVec 32 := Scalar.remsi v2 c4_i32_5
  let c0_i32_56 : BitVec 32 := 0#32
  let v78 : BitVec 32 := Scalar.addi v20 c0_i32_56
  let c4_i32_57 : BitVec 32 := 4#32
  let v79 : BitVec 32 := Scalar.remsi v78 c4_i32_57
  let v80 : BitVec 32 := Scalar.addi v77 v79
  let c1_i32_198 : BitVec 32 := 1#32
  let v255 : BitVec 32 := Scalar.muli v80 c1_i32_198
  let v256 : BitVec 32 := Scalar.addi c0_i32_199 v255
  v256.toNat
def k0_dev24 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_53 : BitVec 32 := 3#32
  let v75 : BitVec 1 := Scalar.cmpi .eq v19 c3_i32_53
  let c1_i32_54 : BitVec 32 := 1#32
  let c2_i32_51 : BitVec 32 := 2#32
  let v73 : BitVec 1 := Scalar.cmpi .eq v19 c2_i32_51
  let c1_i32_52 : BitVec 32 := 1#32
  let c1_i32_49 : BitVec 32 := 1#32
  let v71 : BitVec 1 := Scalar.cmpi .eq v19 c1_i32_49
  let c2_i32_50 : BitVec 32 := 2#32
  let c0_i32_46 : BitVec 32 := 0#32
  let v69 : BitVec 1 := Scalar.cmpi .eq v19 c0_i32_46
  let c2_i32_47 : BitVec 32 := 2#32
  let c0_i32_48 : BitVec 32 := 0#32
  let v70 : BitVec 32 := Scalar.select v69 c2_i32_47 c0_i32_48
  let v72 : BitVec 32 := Scalar.select v71 c2_i32_50 v70
  let v74 : BitVec 32 := Scalar.select v73 c1_i32_52 v72
  let v76 : BitVec 32 := Scalar.select v75 c1_i32_54 v74
  let c4_i32_58 : BitVec 32 := 4#32
  let v81 : BitVec 32 := Scalar.muli v76 c4_i32_58
  let c4_i32_5 : BitVec 32 := 4#32
  let v20 : BitVec 32 := Scalar.remsi v2 c4_i32_5
  let c1_i32_59 : BitVec 32 := 1#32
  let v82 : BitVec 32 := Scalar.addi v20 c1_i32_59
  let c4_i32_60 : BitVec 32 := 4#32
  let v83 : BitVec 32 := Scalar.remsi v82 c4_i32_60
  let v84 : BitVec 32 := Scalar.addi v81 v83
  let c1_i32_204 : BitVec 32 := 1#32
  let v265 : BitVec 32 := Scalar.muli v84 c1_i32_204
  let v266 : BitVec 32 := Scalar.addi c0_i32_205 v265
  v266.toNat
def k0_dev25 (d0 : Dev nD) : Nat :=
  let c0_i32_211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_53 : BitVec 32 := 3#32
  let v75 : BitVec 1 := Scalar.cmpi .eq v19 c3_i32_53
  let c1_i32_54 : BitVec 32 := 1#32
  let c2_i32_51 : BitVec 32 := 2#32
  let v73 : BitVec 1 := Scalar.cmpi .eq v19 c2_i32_51
  let c1_i32_52 : BitVec 32 := 1#32
  let c1_i32_49 : BitVec 32 := 1#32
  let v71 : BitVec 1 := Scalar.cmpi .eq v19 c1_i32_49
  let c2_i32_50 : BitVec 32 := 2#32
  let c0_i32_46 : BitVec 32 := 0#32
  let v69 : BitVec 1 := Scalar.cmpi .eq v19 c0_i32_46
  let c2_i32_47 : BitVec 32 := 2#32
  let c0_i32_48 : BitVec 32 := 0#32
  let v70 : BitVec 32 := Scalar.select v69 c2_i32_47 c0_i32_48
  let v72 : BitVec 32 := Scalar.select v71 c2_i32_50 v70
  let v74 : BitVec 32 := Scalar.select v73 c1_i32_52 v72
  let v76 : BitVec 32 := Scalar.select v75 c1_i32_54 v74
  let c4_i32_61 : BitVec 32 := 4#32
  let v85 : BitVec 32 := Scalar.muli v76 c4_i32_61
  let c4_i32_5 : BitVec 32 := 4#32
  let v20 : BitVec 32 := Scalar.remsi v2 c4_i32_5
  let c3_i32_62 : BitVec 32 := 3#32
  let v86 : BitVec 32 := Scalar.addi v20 c3_i32_62
  let c4_i32_63 : BitVec 32 := 4#32
  let v87 : BitVec 32 := Scalar.remsi v86 c4_i32_63
  let v88 : BitVec 32 := Scalar.addi v85 v87
  let c1_i32_210 : BitVec 32 := 1#32
  let v275 : BitVec 32 := Scalar.muli v88 c1_i32_210
  let v276 : BitVec 32 := Scalar.addi c0_i32_211 v275
  v276.toNat
def k0_dev26 (d0 : Dev nD) : Nat :=
  let c0_i32_217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_53 : BitVec 32 := 3#32
  let v75 : BitVec 1 := Scalar.cmpi .eq v19 c3_i32_53
  let c1_i32_54 : BitVec 32 := 1#32
  let c2_i32_51 : BitVec 32 := 2#32
  let v73 : BitVec 1 := Scalar.cmpi .eq v19 c2_i32_51
  let c1_i32_52 : BitVec 32 := 1#32
  let c1_i32_49 : BitVec 32 := 1#32
  let v71 : BitVec 1 := Scalar.cmpi .eq v19 c1_i32_49
  let c2_i32_50 : BitVec 32 := 2#32
  let c0_i32_46 : BitVec 32 := 0#32
  let v69 : BitVec 1 := Scalar.cmpi .eq v19 c0_i32_46
  let c2_i32_47 : BitVec 32 := 2#32
  let c0_i32_48 : BitVec 32 := 0#32
  let v70 : BitVec 32 := Scalar.select v69 c2_i32_47 c0_i32_48
  let v72 : BitVec 32 := Scalar.select v71 c2_i32_50 v70
  let v74 : BitVec 32 := Scalar.select v73 c1_i32_52 v72
  let v76 : BitVec 32 := Scalar.select v75 c1_i32_54 v74
  let c4_i32_64 : BitVec 32 := 4#32
  let v89 : BitVec 32 := Scalar.muli v76 c4_i32_64
  let c4_i32_5 : BitVec 32 := 4#32
  let v20 : BitVec 32 := Scalar.remsi v2 c4_i32_5
  let c2_i32_65 : BitVec 32 := 2#32
  let v90 : BitVec 32 := Scalar.addi v20 c2_i32_65
  let c4_i32_66 : BitVec 32 := 4#32
  let v91 : BitVec 32 := Scalar.remsi v90 c4_i32_66
  let v92 : BitVec 32 := Scalar.addi v89 v91
  let c1_i32_216 : BitVec 32 := 1#32
  let v285 : BitVec 32 := Scalar.muli v92 c1_i32_216
  let v286 : BitVec 32 := Scalar.addi c0_i32_217 v285
  v286.toNat
def k0_dev27 (d0 : Dev nD) : Nat :=
  let c0_i32_223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_74 : BitVec 32 := 3#32
  let v99 : BitVec 1 := Scalar.cmpi .eq v19 c3_i32_74
  let c0_i32_75 : BitVec 32 := 0#32
  let c2_i32_72 : BitVec 32 := 2#32
  let v97 : BitVec 1 := Scalar.cmpi .eq v19 c2_i32_72
  let c0_i32_73 : BitVec 32 := 0#32
  let c1_i32_70 : BitVec 32 := 1#32
  let v95 : BitVec 1 := Scalar.cmpi .eq v19 c1_i32_70
  let c3_i32_71 : BitVec 32 := 3#32
  let c0_i32_67 : BitVec 32 := 0#32
  let v93 : BitVec 1 := Scalar.cmpi .eq v19 c0_i32_67
  let c3_i32_68 : BitVec 32 := 3#32
  let c0_i32_69 : BitVec 32 := 0#32
  let v94 : BitVec 32 := Scalar.select v93 c3_i32_68 c0_i32_69
  let v96 : BitVec 32 := Scalar.select v95 c3_i32_71 v94
  let v98 : BitVec 32 := Scalar.select v97 c0_i32_73 v96
  let v100 : BitVec 32 := Scalar.select v99 c0_i32_75 v98
  let c4_i32_76 : BitVec 32 := 4#32
  let v101 : BitVec 32 := Scalar.muli v100 c4_i32_76
  let c4_i32_5 : BitVec 32 := 4#32
  let v20 : BitVec 32 := Scalar.remsi v2 c4_i32_5
  let c0_i32_77 : BitVec 32 := 0#32
  let v102 : BitVec 32 := Scalar.addi v20 c0_i32_77
  let c4_i32_78 : BitVec 32 := 4#32
  let v103 : BitVec 32 := Scalar.remsi v102 c4_i32_78
  let v104 : BitVec 32 := Scalar.addi v101 v103
  let c1_i32_222 : BitVec 32 := 1#32
  let v295 : BitVec 32 := Scalar.muli v104 c1_i32_222
  let v296 : BitVec 32 := Scalar.addi c0_i32_223 v295
  v296.toNat
def k0_dev28 (d0 : Dev nD) : Nat :=
  let c0_i32_229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_74 : BitVec 32 := 3#32
  let v99 : BitVec 1 := Scalar.cmpi .eq v19 c3_i32_74
  let c0_i32_75 : BitVec 32 := 0#32
  let c2_i32_72 : BitVec 32 := 2#32
  let v97 : BitVec 1 := Scalar.cmpi .eq v19 c2_i32_72
  let c0_i32_73 : BitVec 32 := 0#32
  let c1_i32_70 : BitVec 32 := 1#32
  let v95 : BitVec 1 := Scalar.cmpi .eq v19 c1_i32_70
  let c3_i32_71 : BitVec 32 := 3#32
  let c0_i32_67 : BitVec 32 := 0#32
  let v93 : BitVec 1 := Scalar.cmpi .eq v19 c0_i32_67
  let c3_i32_68 : BitVec 32 := 3#32
  let c0_i32_69 : BitVec 32 := 0#32
  let v94 : BitVec 32 := Scalar.select v93 c3_i32_68 c0_i32_69
  let v96 : BitVec 32 := Scalar.select v95 c3_i32_71 v94
  let v98 : BitVec 32 := Scalar.select v97 c0_i32_73 v96
  let v100 : BitVec 32 := Scalar.select v99 c0_i32_75 v98
  let c4_i32_79 : BitVec 32 := 4#32
  let v105 : BitVec 32 := Scalar.muli v100 c4_i32_79
  let c4_i32_5 : BitVec 32 := 4#32
  let v20 : BitVec 32 := Scalar.remsi v2 c4_i32_5
  let c1_i32_80 : BitVec 32 := 1#32
  let v106 : BitVec 32 := Scalar.addi v20 c1_i32_80
  let c4_i32_81 : BitVec 32 := 4#32
  let v107 : BitVec 32 := Scalar.remsi v106 c4_i32_81
  let v108 : BitVec 32 := Scalar.addi v105 v107
  let c1_i32_228 : BitVec 32 := 1#32
  let v305 : BitVec 32 := Scalar.muli v108 c1_i32_228
  let v306 : BitVec 32 := Scalar.addi c0_i32_229 v305
  v306.toNat
def k0_dev29 (d0 : Dev nD) : Nat :=
  let c0_i32_235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_74 : BitVec 32 := 3#32
  let v99 : BitVec 1 := Scalar.cmpi .eq v19 c3_i32_74
  let c0_i32_75 : BitVec 32 := 0#32
  let c2_i32_72 : BitVec 32 := 2#32
  let v97 : BitVec 1 := Scalar.cmpi .eq v19 c2_i32_72
  let c0_i32_73 : BitVec 32 := 0#32
  let c1_i32_70 : BitVec 32 := 1#32
  let v95 : BitVec 1 := Scalar.cmpi .eq v19 c1_i32_70
  let c3_i32_71 : BitVec 32 := 3#32
  let c0_i32_67 : BitVec 32 := 0#32
  let v93 : BitVec 1 := Scalar.cmpi .eq v19 c0_i32_67
  let c3_i32_68 : BitVec 32 := 3#32
  let c0_i32_69 : BitVec 32 := 0#32
  let v94 : BitVec 32 := Scalar.select v93 c3_i32_68 c0_i32_69
  let v96 : BitVec 32 := Scalar.select v95 c3_i32_71 v94
  let v98 : BitVec 32 := Scalar.select v97 c0_i32_73 v96
  let v100 : BitVec 32 := Scalar.select v99 c0_i32_75 v98
  let c4_i32_82 : BitVec 32 := 4#32
  let v109 : BitVec 32 := Scalar.muli v100 c4_i32_82
  let c4_i32_5 : BitVec 32 := 4#32
  let v20 : BitVec 32 := Scalar.remsi v2 c4_i32_5
  let c3_i32_83 : BitVec 32 := 3#32
  let v110 : BitVec 32 := Scalar.addi v20 c3_i32_83
  let c4_i32_84 : BitVec 32 := 4#32
  let v111 : BitVec 32 := Scalar.remsi v110 c4_i32_84
  let v112 : BitVec 32 := Scalar.addi v109 v111
  let c1_i32_234 : BitVec 32 := 1#32
  let v315 : BitVec 32 := Scalar.muli v112 c1_i32_234
  let v316 : BitVec 32 := Scalar.addi c0_i32_235 v315
  v316.toNat
def k0_dev30 (d0 : Dev nD) : Nat :=
  let c0_i32_241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_74 : BitVec 32 := 3#32
  let v99 : BitVec 1 := Scalar.cmpi .eq v19 c3_i32_74
  let c0_i32_75 : BitVec 32 := 0#32
  let c2_i32_72 : BitVec 32 := 2#32
  let v97 : BitVec 1 := Scalar.cmpi .eq v19 c2_i32_72
  let c0_i32_73 : BitVec 32 := 0#32
  let c1_i32_70 : BitVec 32 := 1#32
  let v95 : BitVec 1 := Scalar.cmpi .eq v19 c1_i32_70
  let c3_i32_71 : BitVec 32 := 3#32
  let c0_i32_67 : BitVec 32 := 0#32
  let v93 : BitVec 1 := Scalar.cmpi .eq v19 c0_i32_67
  let c3_i32_68 : BitVec 32 := 3#32
  let c0_i32_69 : BitVec 32 := 0#32
  let v94 : BitVec 32 := Scalar.select v93 c3_i32_68 c0_i32_69
  let v96 : BitVec 32 := Scalar.select v95 c3_i32_71 v94
  let v98 : BitVec 32 := Scalar.select v97 c0_i32_73 v96
  let v100 : BitVec 32 := Scalar.select v99 c0_i32_75 v98
  let c4_i32_85 : BitVec 32 := 4#32
  let v113 : BitVec 32 := Scalar.muli v100 c4_i32_85
  let c4_i32_5 : BitVec 32 := 4#32
  let v20 : BitVec 32 := Scalar.remsi v2 c4_i32_5
  let c2_i32_86 : BitVec 32 := 2#32
  let v114 : BitVec 32 := Scalar.addi v20 c2_i32_86
  let c4_i32_87 : BitVec 32 := 4#32
  let v115 : BitVec 32 := Scalar.remsi v114 c4_i32_87
  let v116 : BitVec 32 := Scalar.addi v113 v115
  let c1_i32_240 : BitVec 32 := 1#32
  let v325 : BitVec 32 := Scalar.muli v116 c1_i32_240
  let v326 : BitVec 32 := Scalar.addi c0_i32_241 v325
  v326.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_245 : BitVec 32 := 256#32
  let v334 : BitVec 32 := Scalar.muli v2 c256_i32_245
  let v335 : Index := Scalar.indexCast v334
  let c0_246 : Index := 0#32
  ![v335.toNat, 0]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v337 : Index := Scalar.indexCast v2
  let c0_247 : Index := 0#32
  let c0_248 : Index := 0#32
  ![v337.toNat, 0, 0]
def k0_off7 (d0 : Dev nD) (c3_i32_12 : BitVec 32) (c2_i32_11 : BitVec 32) (c1_i32_10 : BitVec 32) (c0_i32_7 : BitVec 32) (c0_i32_14 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v27 : BitVec 1 := Scalar.cmpi .eq v19 c3_i32
  let c2_i32 : BitVec 32 := 2#32
  let v25 : BitVec 1 := Scalar.cmpi .eq v19 c2_i32
  let c1_i32_9 : BitVec 32 := 1#32
  let v23 : BitVec 1 := Scalar.cmpi .eq v19 c1_i32_9
  let c0_i32_6 : BitVec 32 := 0#32
  let v21 : BitVec 1 := Scalar.cmpi .eq v19 c0_i32_6
  let c0_i32_8 : BitVec 32 := 0#32
  let v22 : BitVec 32 := Scalar.select v21 c0_i32_7 c0_i32_8
  let v24 : BitVec 32 := Scalar.select v23 c1_i32_10 v22
  let v26 : BitVec 32 := Scalar.select v25 c2_i32_11 v24
  let v28 : BitVec 32 := Scalar.select v27 c3_i32_12 v26
  let c4_i32_13 : BitVec 32 := 4#32
  let v29 : BitVec 32 := Scalar.muli v28 c4_i32_13
  let c4_i32_5 : BitVec 32 := 4#32
  let v20 : BitVec 32 := Scalar.remsi v2 c4_i32_5
  let v30 : BitVec 32 := Scalar.addi v20 c0_i32_14
  let c4_i32_15 : BitVec 32 := 4#32
  let v31 : BitVec 32 := Scalar.remsi v30 c4_i32_15
  let v32 : BitVec 32 := Scalar.addi v29 v31
  let c256_i32_249 : BitVec 32 := 256#32
  let v341 : BitVec 32 := Scalar.muli v32 c256_i32_249
  let c0_i32_254 : BitVec 32 := 0#32
  ![v341.toNat, 0]
def k0_off7_at (r : Fin 16) : BitVec 32 × BitVec 32 × BitVec 32 × BitVec 32 × BitVec 32 :=
  if r.val < 8 then
    if r.val < 4 then
      if r.val < 2 then
        if r.val < 1 then
          (3#32, 2#32, 1#32, 0#32, 0#32)
        else
          (3#32, 2#32, 1#32, 0#32, 1#32)
      else
        if r.val < 3 then
          (3#32, 2#32, 1#32, 0#32, 3#32)
        else
          (3#32, 2#32, 1#32, 0#32, 2#32)
    else
      if r.val < 6 then
        if r.val < 5 then
          (2#32, 3#32, 0#32, 1#32, 0#32)
        else
          (2#32, 3#32, 0#32, 1#32, 1#32)
      else
        if r.val < 7 then
          (2#32, 3#32, 0#32, 1#32, 3#32)
        else
          (2#32, 3#32, 0#32, 1#32, 2#32)
  else
    if r.val < 12 then
      if r.val < 10 then
        if r.val < 9 then
          (1#32, 1#32, 2#32, 2#32, 0#32)
        else
          (1#32, 1#32, 2#32, 2#32, 1#32)
      else
        if r.val < 11 then
          (1#32, 1#32, 2#32, 2#32, 3#32)
        else
          (1#32, 1#32, 2#32, 2#32, 2#32)
    else
      if r.val < 14 then
        if r.val < 13 then
          (0#32, 0#32, 3#32, 3#32, 0#32)
        else
          (0#32, 0#32, 3#32, 3#32, 1#32)
      else
        if r.val < 15 then
          (0#32, 0#32, 3#32, 3#32, 3#32)
        else
          (0#32, 0#32, 3#32, 3#32, 2#32)
def k0_off8 (d0 : Dev nD) (c3_i32_12 : BitVec 32) (c2_i32_11 : BitVec 32) (c1_i32_10 : BitVec 32) (c0_i32_7 : BitVec 32) (c0_i32_14 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v27 : BitVec 1 := Scalar.cmpi .eq v19 c3_i32
  let c2_i32 : BitVec 32 := 2#32
  let v25 : BitVec 1 := Scalar.cmpi .eq v19 c2_i32
  let c1_i32_9 : BitVec 32 := 1#32
  let v23 : BitVec 1 := Scalar.cmpi .eq v19 c1_i32_9
  let c0_i32_6 : BitVec 32 := 0#32
  let v21 : BitVec 1 := Scalar.cmpi .eq v19 c0_i32_6
  let c0_i32_8 : BitVec 32 := 0#32
  let v22 : BitVec 32 := Scalar.select v21 c0_i32_7 c0_i32_8
  let v24 : BitVec 32 := Scalar.select v23 c1_i32_10 v22
  let v26 : BitVec 32 := Scalar.select v25 c2_i32_11 v24
  let v28 : BitVec 32 := Scalar.select v27 c3_i32_12 v26
  let c4_i32_13 : BitVec 32 := 4#32
  let v29 : BitVec 32 := Scalar.muli v28 c4_i32_13
  let c4_i32_5 : BitVec 32 := 4#32
  let v20 : BitVec 32 := Scalar.remsi v2 c4_i32_5
  let v30 : BitVec 32 := Scalar.addi v20 c0_i32_14
  let c4_i32_15 : BitVec 32 := 4#32
  let v31 : BitVec 32 := Scalar.remsi v30 c4_i32_15
  let v32 : BitVec 32 := Scalar.addi v29 v31
  let v365 : Index := Scalar.indexCast v32
  let c0_273 : Index := 0#32
  let c0_274 : Index := 0#32
  ![v365.toNat, 0, 0]
def k0_off8_at (r : Fin 16) : BitVec 32 × BitVec 32 × BitVec 32 × BitVec 32 × BitVec 32 :=
  if r.val < 8 then
    if r.val < 4 then
      if r.val < 2 then
        if r.val < 1 then
          (3#32, 2#32, 1#32, 0#32, 0#32)
        else
          (3#32, 2#32, 1#32, 0#32, 1#32)
      else
        if r.val < 3 then
          (3#32, 2#32, 1#32, 0#32, 3#32)
        else
          (3#32, 2#32, 1#32, 0#32, 2#32)
    else
      if r.val < 6 then
        if r.val < 5 then
          (2#32, 3#32, 0#32, 1#32, 0#32)
        else
          (2#32, 3#32, 0#32, 1#32, 1#32)
      else
        if r.val < 7 then
          (2#32, 3#32, 0#32, 1#32, 3#32)
        else
          (2#32, 3#32, 0#32, 1#32, 2#32)
  else
    if r.val < 12 then
      if r.val < 10 then
        if r.val < 9 then
          (1#32, 1#32, 2#32, 2#32, 0#32)
        else
          (1#32, 1#32, 2#32, 2#32, 1#32)
      else
        if r.val < 11 then
          (1#32, 1#32, 2#32, 2#32, 3#32)
        else
          (1#32, 1#32, 2#32, 2#32, 2#32)
    else
      if r.val < 14 then
        if r.val < 13 then
          (0#32, 0#32, 3#32, 3#32, 0#32)
        else
          (0#32, 0#32, 3#32, 3#32, 1#32)
      else
        if r.val < 15 then
          (0#32, 0#32, 3#32, 3#32, 3#32)
        else
          (0#32, 0#32, 3#32, 3#32, 2#32)
def k0_off9 (d0 : Dev nD) (c3_i32_12 : BitVec 32) (c2_i32_11 : BitVec 32) (c1_i32_10 : BitVec 32) (c0_i32_7 : BitVec 32) (c1_i32_17 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v27 : BitVec 1 := Scalar.cmpi .eq v19 c3_i32
  let c2_i32 : BitVec 32 := 2#32
  let v25 : BitVec 1 := Scalar.cmpi .eq v19 c2_i32
  let c1_i32_9 : BitVec 32 := 1#32
  let v23 : BitVec 1 := Scalar.cmpi .eq v19 c1_i32_9
  let c0_i32_6 : BitVec 32 := 0#32
  let v21 : BitVec 1 := Scalar.cmpi .eq v19 c0_i32_6
  let c0_i32_8 : BitVec 32 := 0#32
  let v22 : BitVec 32 := Scalar.select v21 c0_i32_7 c0_i32_8
  let v24 : BitVec 32 := Scalar.select v23 c1_i32_10 v22
  let v26 : BitVec 32 := Scalar.select v25 c2_i32_11 v24
  let v28 : BitVec 32 := Scalar.select v27 c3_i32_12 v26
  let c4_i32_16 : BitVec 32 := 4#32
  let v33 : BitVec 32 := Scalar.muli v28 c4_i32_16
  let c4_i32_5 : BitVec 32 := 4#32
  let v20 : BitVec 32 := Scalar.remsi v2 c4_i32_5
  let v34 : BitVec 32 := Scalar.addi v20 c1_i32_17
  let c4_i32_18 : BitVec 32 := 4#32
  let v35 : BitVec 32 := Scalar.remsi v34 c4_i32_18
  let v36 : BitVec 32 := Scalar.addi v33 v35
  let c0_i32_294 : BitVec 32 := 0#32
  let c0_i32_295 : BitVec 32 := 0#32
  ![v36.toNat, 0, 0]
def k0_off9_at (r : Fin 15) : BitVec 32 × BitVec 32 × BitVec 32 × BitVec 32 × BitVec 32 :=
  if r.val < 7 then
    if r.val < 3 then
      if r.val < 1 then
        (3#32, 2#32, 1#32, 0#32, 1#32)
      else
        if r.val < 2 then
          (3#32, 2#32, 1#32, 0#32, 3#32)
        else
          (3#32, 2#32, 1#32, 0#32, 2#32)
    else
      if r.val < 5 then
        if r.val < 4 then
          (2#32, 3#32, 0#32, 1#32, 0#32)
        else
          (2#32, 3#32, 0#32, 1#32, 1#32)
      else
        if r.val < 6 then
          (2#32, 3#32, 0#32, 1#32, 3#32)
        else
          (2#32, 3#32, 0#32, 1#32, 2#32)
  else
    if r.val < 11 then
      if r.val < 9 then
        if r.val < 8 then
          (1#32, 1#32, 2#32, 2#32, 0#32)
        else
          (1#32, 1#32, 2#32, 2#32, 1#32)
      else
        if r.val < 10 then
          (1#32, 1#32, 2#32, 2#32, 3#32)
        else
          (1#32, 1#32, 2#32, 2#32, 2#32)
    else
      if r.val < 13 then
        if r.val < 12 then
          (0#32, 0#32, 3#32, 3#32, 0#32)
        else
          (0#32, 0#32, 3#32, 3#32, 1#32)
      else
        if r.val < 14 then
          (0#32, 0#32, 3#32, 3#32, 3#32)
        else
          (0#32, 0#32, 3#32, 3#32, 2#32)
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Body.lean ====
/-
The kernel's body in readable form.

`rawBody` writes the printed body as what it is, phases over lists: the entry signals and wait, the
cast of `x` to bfloat16, the fifteen sends, the block a device keeps, the first two copies of `w`,
the sixteen steps of the main loop, the fifteen waits for the sends. `body_eq_raw` says the
printed body is this program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option maxRecDepth 16384

noncomputable section

namespace Cert.Rowwise

open Cert.KernelIdeal Cert.KernelIdeal.Gen
open Idealize.ShloMosaic Idealize.SL.Sem

variable {F : FTy → Type} [FloatOps F]

/-- Run `f` at every entry of a list, in order. -/
def each {α : Type} (f : α → Prog (TpuEff nD τ sig (Elt F) Λ₀ .tc) PUnit) : List α → Prog (TpuEff nD τ sig (Elt F) Λ₀ .tc) PUnit
  | [] => pure ⟨⟩
  | a :: l => do f a; each f l

/-! ### The operations, at any offsets -/

/-- One of the sixteen semaphores of an array, by its offset. -/
abbrev sem16 (a : DmaSems sig S16) (o : Fin 1 → ℕ) (h : ∀ a, o a + S1.size a ≤ S16.size a) : DmaSem sig :=
  ((a.slice (Rect.unit (s := S16) o S1.size h)).squeeze S_ squeezes_S1_S_).sem

/-- One of the three semaphores of the weight copies. -/
abbrev sem3 (o : Fin 1 → ℕ) (h : ∀ a, o a + S1.size a ≤ S3.size a) : DmaSem sig :=
  ((cc0_scratch3.slice (Rect.unit (s := S3) o S1.size h)).squeeze S_ squeezes_S1_S_).sem

/-- A row block of the bfloat16 copy of `x`. -/
abbrev xbM (o : Fin 2 → ℕ) (h : ∀ a, o a + S256x256.size a ≤ S4096x256.size a) : Memref sig .tc .vmem S256x256 .bf16 :=
  (Memref.whole cc0_scratch0).slice (Rect.unit (s := S4096x256) o S256x256.size h) (fun _ => rfl)

/-- A slot of the gathered blocks. -/
abbrev xgM (o : Fin 3 → ℕ) (h : ∀ a, o a + S1x256x256.size a ≤ S16x256x256.size a) : Memref sig .tc .vmem S256x256 .bf16 :=
  ((Memref.whole cc0_scratch1).slice (Rect.unit (s := S16x256x256) o S1x256x256.size h) (fun _ => rfl)).squeeze S256x256
    squeezes_S1x256x256_S256x256

/-- A slot of the weight buffer. -/
abbrev wbM (o : Fin 3 → ℕ) (h : ∀ a, o a + S1x256x8192.size a ≤ S3x256x8192.size a) : Memref sig .tc .vmem S256x8192 .f32 :=
  ((Memref.whole cc0_scratch2).slice (Rect.unit (s := S3x256x8192) o S1x256x8192.size h) (fun _ => rfl)).squeeze S256x8192
    squeezes_S1x256x8192_S256x8192

/-- A row block of the weights. -/
abbrev wM (o : Fin 2 → ℕ) (h : ∀ a, o a + S256x8192.size a ≤ S4096x8192.size a) : Memref sig .tc .hbm S256x8192 .f32 :=
  (Memref.whole main_arg1).slice (Rect.unit (s := S4096x8192) o S256x8192.size h) (fun _ => rfl)

/-- Send a row block of `xb` into a slot of another device. -/
def sendOp (dst : Dev nD) (oS oR : Fin 1 → ℕ) (hS : ∀ a, oS a + S1.size a ≤ S16.size a) (hR : ∀ a, oR a + S1.size a ≤ S16.size a)
    (oX : Fin 3 → ℕ) (hX : ∀ a, oX a + S1x256x256.size a ≤ S16x256x256.size a)
    (wX : (Rect.unit (s := S16x256x256) oX S1x256x256.size hX).WholeWords (EltTy.packing .bf16))
    (oB : Fin 2 → ℕ) (hB : ∀ a, oB a + S256x256.size a ≤ S4096x256.size a)
    (wB : (Rect.unit (s := S4096x256) oB S256x256.size hB).WholeWords (EltTy.packing .bf16)) : Prog (TpuEff nD τ sig (Elt F) Λ₀ .tc) PUnit :=
  Prog.lift (.enqueueDma (xbM oB hB) (.remote (Dev.tc dst) (xgM oX hX) (.dma (sem16 cc0_scratch4 oS hS))) (.dma (sem16 cc0_scratch5 oR hR))
    ((Memref.isWhole_whole cc0_scratch0).wordExact_slice rfl _ wB) (((Memref.isWhole_whole cc0_scratch1).wordExact_slice rfl _ wX).reshape _ _)
    ⟨⟨rfl, Or.inl rfl⟩, trivial⟩)

/-- Wait until a send has read its row block. -/
def sentOp (oS : Fin 1 → ℕ) (hS : ∀ a, oS a + S1.size a ≤ S16.size a)
    (oX : Fin 3 → ℕ) (hX : ∀ a, oX a + S1x256x256.size a ≤ S16x256x256.size a)
    (wX : (Rect.unit (s := S16x256x256) oX S1x256x256.size hX).WholeWords (EltTy.packing .bf16))
    (oB : Fin 2 → ℕ) (hB : ∀ a, oB a + S256x256.size a ≤ S4096x256.size a)
    (wB : (Rect.unit (s := S4096x256) oB S256x256.size hB).WholeWords (EltTy.packing .bf16)) : Prog (TpuEff nD τ sig (Elt F) Λ₀ .tc) PUnit :=
  Prog.lift (.waitDma2 (sem16 cc0_scratch4 oS hS) (xgM oX hX) (xbM oB hB)
    (((Memref.isWhole_whole cc0_scratch1).wordExact_slice rfl _ wX).reshape _ _) ((Memref.isWhole_whole cc0_scratch0).wordExact_slice rfl _ wB))

/-- Wait until a block has landed in its slot. -/
def landedOp (oR : Fin 1 → ℕ) (hR : ∀ a, oR a + S1.size a ≤ S16.size a)
    (oX : Fin 3 → ℕ) (hX : ∀ a, oX a + S1x256x256.size a ≤ S16x256x256.size a)
    (wX : (Rect.unit (s := S16x256x256) oX S1x256x256.size hX).WholeWords (EltTy.packing .bf16)) : Prog (TpuEff nD τ sig (Elt F) Λ₀ .tc) PUnit :=
  Prog.lift (.waitDma2 (sem16 cc0_scratch5 oR hR) (xgM oX hX) (xgM oX hX)
    (((Memref.isWhole_whole cc0_scratch1).wordExact_slice rfl _ wX).reshape _ _)
    (((Memref.isWhole_whole cc0_scratch1).wordExact_slice rfl _ wX).reshape _ _))

/-- Start the copy of a row block of the weights into a slot. -/
def fetchOp (oS : Fin 1 → ℕ) (hS : ∀ a, oS a + S1.size a ≤ S3.size a)
    (oB : Fin 3 → ℕ) (hB : ∀ a, oB a + S1x256x8192.size a ≤ S3x256x8192.size a)
    (oW : Fin 2 → ℕ) (hW : ∀ a, oW a + S256x8192.size a ≤ S4096x8192.size a) : Prog (TpuEff nD τ sig (Elt F) Λ₀ .tc) PUnit :=
  Prog.lift (.enqueueDma (wM oW hW) (.here (wbM oB hB)) (.dma (sem3 oS hS))
    (View.wordExact_bits rfl) ((View.wordExact_bits rfl).reshape _ _) ⟨Or.inl rfl, trivial⟩)

/-- Wait for such a copy. -/
def fetchedOp (oS : Fin 1 → ℕ) (hS : ∀ a, oS a + S1.size a ≤ S3.size a)
    (oB : Fin 3 → ℕ) (hB : ∀ a, oB a + S1x256x8192.size a ≤ S3x256x8192.size a)
    (oW : Fin 2 → ℕ) (hW : ∀ a, oW a + S256x8192.size a ≤ S4096x8192.size a) : Prog (TpuEff nD τ sig (Elt F) Λ₀ .tc) PUnit :=
  Prog.lift (.waitDma2 (sem3 oS hS) (wM oW hW) (wbM oB hB) (View.wordExact_bits rfl) ((View.wordExact_bits rfl).reshape _ _))

/-- Cast the staged `x` to bfloat16 into `xb` (which is read first, the value unused). -/
def castOp : Prog (TpuEff nD τ sig (Elt F) Λ₀ .tc) PUnit := do
  let v ← Prog.lift (.load (Memref.whole cc0_stg0_0) (Rect.unit (s := S4096x256) ![0, 0] S4096x256.size inb_S4096x256_S4096x256_0_0).toLoadRect (View.loadsAt_vmem h_S4096x256))
  let _u ← Prog.lift (.load (Memref.whole cc0_scratch0) (Rect.unit (s := S4096x256) ![0, 0] S4096x256.size inb_S4096x256_S4096x256_0_0).toLoadRect (View.loadsAt_vmem h_S4096x256))
  Prog.lift (.store (Memref.whole cc0_scratch0) (Rect.unit (s := S4096x256) ![0, 0] S4096x256.size inb_S4096x256_S4096x256_0_0) (k0_pay1 v) Finset.univ
    (View.stores_vmem h_S4096x256 ((Memref.isWhole_whole cc0_scratch0).storeExact_slice rfl _ packedbf16_S4096x256_S4096x256_0_0) (fun _ => rfl)) (.inl rfl))

/-- Keep a device's own block: `xb`'s row block into a slot of its own. -/
def keepOp (oB : Fin 2 → ℕ) (hB : ∀ a, oB a + S256x256.size a ≤ S4096x256.size a)
    (oX : Fin 3 → ℕ) (hX : ∀ a, oX a + S1x256x256.size a ≤ S16x256x256.size a)
    (pX : (Rect.unit (s := S16x256x256) oX S1x256x256.size hX).PackedRows (EltTy.packing .bf16)) : Prog (TpuEff nD τ sig (Elt F) Λ₀ .tc) PUnit := do
  let v ← Prog.lift (.load (Memref.whole cc0_scratch0) (Rect.unit (s := S4096x256) oB S256x256.size hB).toLoadRect (View.loadsAt_vmem h_S256x256))
  let _u ← Prog.lift (.load (Memref.whole cc0_scratch1) (Rect.unit (s := S16x256x256) oX S1x256x256.size hX).toLoadRect (View.loadsAt_vmem h_S1x256x256))
  Prog.lift (.store (Memref.whole cc0_scratch1) (Rect.unit (s := S16x256x256) oX S1x256x256.size hX) (k0_pay2 v) Finset.univ
    (View.stores_vmem h_S1x256x256 ((Memref.isWhole_whole cc0_scratch1).storeExact_slice rfl _ pX) (fun _ => rfl)) (.inl rfl))

/-- The staged output, all of it, as a load's rectangle. -/
abbrev rOut : Rect S256x8192 := Rect.unit (s := S256x8192) ![0, 0] S256x8192.size inb_S256x8192_S256x8192_0_0

/-- What step `t` leaves in the output: the product at step 0, added to what is there later, and the
    negative entries replaced by zero at the last. -/
def upd (t : ℕ) (a : Vec F S1x256x256 .bf16) (w : Vec F S1x256x8192 .f32) (o : Vec F S256x8192 .f32) : FVec F S256x8192 .f32 :=
  if t = 0 then k0_pay3 a w else if t = 15 then k0_pay26 a w o else k0_pay5 a w o

/-- The arithmetic of step `t`: the slot of the gathered blocks, the slot of the weights, the output. -/
def mulOp (t : ℕ) (oX : Fin 3 → ℕ) (hX : ∀ a, oX a + S1x256x256.size a ≤ S16x256x256.size a)
    (oB : Fin 3 → ℕ) (hB : ∀ a, oB a + S1x256x8192.size a ≤ S3x256x8192.size a) : Prog (TpuEff nD τ sig (Elt F) Λ₀ .tc) PUnit := do
  let a ← Prog.lift (.load (Memref.whole cc0_scratch1) (Rect.unit (s := S16x256x256) oX S1x256x256.size hX).toLoadRect (View.loadsAt_vmem h_S1x256x256))
  let w ← Prog.lift (.load (Memref.whole cc0_scratch2) (Rect.unit (s := S3x256x8192) oB S1x256x8192.size hB).toLoadRect (View.loadsAt_vmem h_S1x256x8192))
  let o ← Prog.lift (.load (Memref.whole cc0_stg1_0) rOut.toLoadRect (View.loadsAt_vmem h_S256x8192))
  if t ≠ 0 then do
    let _u ← Prog.lift (.load (Memref.whole cc0_stg1_0) rOut.toLoadRect (View.loadsAt_vmem h_S256x8192))
    Prog.lift (.store (Memref.whole cc0_stg1_0) rOut (upd t a w o) Finset.univ (View.stores_vmem_bits_univ h_S256x8192 rfl) (.inl rfl))
  else
    Prog.lift (.store (Memref.whole cc0_stg1_0) rOut (upd t a w o) Finset.univ (View.stores_vmem_bits_univ h_S256x8192 rfl) (.inl rfl))

/-! ### The printed body, phase by phase -/

theorem inb3 (k : Fin 3) : ∀ a, (![k.val] : Fin 1 → ℕ) a + S1.size a ≤ S3.size a := by
  revert k; decide

theorem inbw (k : Fin 3) : ∀ a, (![k.val, 0, 0] : Fin 3 → ℕ) a + S1x256x8192.size a ≤ S3x256x8192.size a := by
  revert k; decide

/-- The slot of the weight buffer step `t` uses. -/
abbrev slot3 (t : ℕ) : Fin 3 := ⟨t % 3, Nat.mod_lt _ (by decide)⟩

/-- The devices of the entry signals, in order. -/
def sigDev (d : Dev nD) : List (Dev nD) :=
  [⟨k0_dev1 d, k0_dev1_lt d⟩, ⟨k0_dev2 d, k0_dev2_lt d⟩, ⟨k0_dev3 d, k0_dev3_lt d⟩, ⟨k0_dev4 d, k0_dev4_lt d⟩,
   ⟨k0_dev5 d, k0_dev5_lt d⟩, ⟨k0_dev6 d, k0_dev6_lt d⟩, ⟨k0_dev7 d, k0_dev7_lt d⟩, ⟨k0_dev8 d, k0_dev8_lt d⟩,
   ⟨k0_dev9 d, k0_dev9_lt d⟩, ⟨k0_dev10 d, k0_dev10_lt d⟩, ⟨k0_dev11 d, k0_dev11_lt d⟩, ⟨k0_dev12 d, k0_dev12_lt d⟩,
   ⟨k0_dev13 d, k0_dev13_lt d⟩, ⟨k0_dev14 d, k0_dev14_lt d⟩, ⟨k0_dev15 d, k0_dev15_lt d⟩]

/-- The destinations of the sends. -/
def sendDev (d : Dev nD) : Fin 15 → Dev nD :=
  ![⟨k0_dev16 d, k0_dev16_lt d⟩, ⟨k0_dev17 d, k0_dev17_lt d⟩, ⟨k0_dev18 d, k0_dev18_lt d⟩, ⟨k0_dev19 d, k0_dev19_lt d⟩,
   ⟨k0_dev20 d, k0_dev20_lt d⟩, ⟨k0_dev21 d, k0_dev21_lt d⟩, ⟨k0_dev22 d, k0_dev22_lt d⟩, ⟨k0_dev23 d, k0_dev23_lt d⟩,
   ⟨k0_dev24 d, k0_dev24_lt d⟩, ⟨k0_dev25 d, k0_dev25_lt d⟩, ⟨k0_dev26 d, k0_dev26_lt d⟩, ⟨k0_dev27 d, k0_dev27_lt d⟩,
   ⟨k0_dev28 d, k0_dev28_lt d⟩, ⟨k0_dev29 d, k0_dev29_lt d⟩, ⟨k0_dev30 d, k0_dev30_lt d⟩]

/-- The steps the sends and waits are numbered by. -/
abbrev all15 : List (Fin 15) := [0, 1, 2, 3, 4, 5, 6, 7, 8, 9, 10, 11, 12, 13, 14]

/-- The steps of the main loop. -/
abbrev all16 : List (Fin 16) := [0, 1, 2, 3, 4, 5, 6, 7, 8, 9, 10, 11, 12, 13, 14, 15]

def rawSend (d : Dev nD) (r : Fin 15) : Prog (TpuEff nD τ sig (Elt F) Λ₀ .tc) PUnit :=
  sendOp (sendDev d r) _ _ (k0_off1_inb d r) (k0_off2_inb d) _ _ (k0_off3_wordsbf16 d) _ _ (k0_off4_wordsbf16 d r)

def rawSent (d : Dev nD) (r : Fin 15) : Prog (TpuEff nD τ sig (Elt F) Λ₀ .tc) PUnit :=
  sentOp _ (k0_off1_inb d r) _ _ (k0_off3_wordsbf16 d) _ _ (k0_off4_wordsbf16 d r)

def rawFetch (d : Dev nD) (t : Fin 16) : Prog (TpuEff nD τ sig (Elt F) Λ₀ .tc) PUnit :=
  fetchOp _ (inb3 (slot3 t)) _ (inbw (slot3 t)) _ (k0_off7_inb d t)

def rawFetched (d : Dev nD) (t : Fin 16) : Prog (TpuEff nD τ sig (Elt F) Λ₀ .tc) PUnit :=
  fetchedOp _ (inb3 (slot3 t)) _ (inbw (slot3 t)) _ (k0_off7_inb d t)

def rawLanded (d : Dev nD) (r : Fin 15) : Prog (TpuEff nD τ sig (Elt F) Λ₀ .tc) PUnit :=
  landedOp _ (k0_off1_inb d r) _ _ (k0_off9_wordsbf16 d r)

def rawStep (d : Dev nD) (t : Fin 16) : Prog (TpuEff nD τ sig (Elt F) Λ₀ .tc) PUnit := do
  if h : t.val + 2 < 16 then rawFetch d ⟨t.val + 2, h⟩ else pure ⟨⟩
  rawFetched d t
  if h : 0 < t.val then rawLanded d ⟨t.val - 1, by omega⟩ else pure ⟨⟩
  mulOp t.val _ (k0_off8_inb d t) _ (inbw (slot3 t))

/-- The body, phase by phase. -/
def rawBody : Prog (TpuEff nD τ sig (Elt F) Λ₀ .tc) PUnit := do
  let d ← Prog.lift .deviceId
  each (fun e => semSignalWord e barrier0 1#32) (sigDev d)
  semWaitWord barrier0 15#32
  castOp
  each (rawSend d) all15
  keepOp _ (k0_off5_inb d) _ _ (k0_off6_packedbf16 d)
  rawFetch d 0
  rawFetch d 1
  each (rawStep d) all16
  each (rawSent d) all15

end Cert.Rowwise
-- ==== Proof.BodyEq.lean ====
/-
The printed body is `rawBody`.
-/
module

public import proofs.«01_k».proof.Proof.Body

@[expose] public section

set_option maxRecDepth 65536
set_option maxHeartbeats 0

noncomputable section

namespace Cert.Rowwise

open Cert.KernelIdeal Cert.KernelIdeal.Gen
open Idealize.ShloMosaic Idealize.SL.Sem

variable {F : FTy → Type} [FloatOps F]

/-- The printed body, on the buffers the launch calls it with, is the phases in order. -/
theorem body_eq_raw : cc0_body (Memref.whole cc0_stg0_0) (Memref.isWhole_whole _) (Memref.whole main_arg1) (Memref.isWhole_whole _)
    (Memref.whole cc0_stg1_0) (Memref.isWhole_whole _) (Memref.whole cc0_scratch0) (Memref.isWhole_whole _) (Memref.whole cc0_scratch1)
    (Memref.isWhole_whole _) (Memref.whole cc0_scratch2) (Memref.isWhole_whole _) cc0_scratch3 cc0_scratch4 cc0_scratch5
      = (rawBody : Prog (TpuEff nD τ sig (Elt F) Λ₀ .tc) PUnit) := by
  rw [cc0_body_eq_skeleton, cc0_body_skel]
  simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel]
  simp only [bind_assoc, pure_bind]
  simp only [rawBody, each, all15, all16, sigDev, castOp, keepOp, rawStep, mulOp, bind_assoc, pure_bind]
  rfl

end Cert.Rowwise
-- ==== Proof.Order.lean ====
/-
The order in which a device visits the sixteen blocks, and the printed offsets in its terms.
-/
module

public import proofs.«01_k».proof.Proof.Gen.KernelIdeal

@[expose] public section

set_option maxRecDepth 16384

noncomputable section

namespace Cert.Rowwise

open Cert.KernelIdeal Cert.KernelIdeal.Gen
open Idealize.ShloMosaic

/-- The planes (groups of four devices) in the order a device of plane `p` visits them: its own first. -/
def planeAt (p j : ℕ) : ℕ :=
  (([[0, 1, 2, 3], [1, 0, 2, 3], [2, 3, 1, 0], [3, 2, 1, 0]] : List (List ℕ)).getD p []).getD j 0

/-- The shifts within a plane, in order. -/
def shiftAt (j : ℕ) : ℕ := ([0, 1, 3, 2] : List ℕ).getD j 0

/-- The block device `c` multiplies at step `t`; step 0 is its own. -/
def ordN (c t : ℕ) : ℕ := planeAt (c / 4) (t / 4) * 4 + (c % 4 + shiftAt (t % 4)) % 4

theorem ordN_lt : ∀ c t : Fin 16, ordN c.val t.val < 16 := by decide +kernel

/-- The block device `c` multiplies at step `t`. -/
def ord (c : Dev nD) (t : Fin 16) : Fin 16 := ⟨ordN c.val t.val, ordN_lt c t⟩

theorem ord_zero : ∀ c : Dev nD, ord c 0 = c := by decide +kernel

theorem ord_injective : ∀ c : Dev nD, Function.Injective (ord c) := by decide +kernel

theorem ord_bijective (c : Dev nD) : Function.Bijective (ord c) :=
  (Finite.injective_iff_bijective).mp (ord_injective c)

/-- The order as a permutation of the blocks. -/
def ordE (c : Dev nD) : Fin 16 ≃ Fin 16 := Equiv.ofBijective (ord c) (ord_bijective c)

theorem ordE_apply (c : Dev nD) (t : Fin 16) : ordE c t = ord c t := rfl

/-- A step after the first. -/
abbrev up (r : Fin 15) : Fin 16 := r.succ

theorem ord_up_ne (c : Dev nD) (r : Fin 15) : ord c (up r) ≠ c := fun h =>
  absurd (ord_injective c (h.trans (ord_zero c).symm)) (Fin.succ_ne_zero r)

theorem off1_eq : ∀ (d : Dev nD) (r : Fin 15),
    k0_off1 d (k0_off1_at r).1 (k0_off1_at r).2.1 (k0_off1_at r).2.2.1 (k0_off1_at r).2.2.2.1 (k0_off1_at r).2.2.2.2
      = ![(ord d (up r)).val] := by decide +kernel

theorem off2_eq : ∀ d : Dev nD, k0_off2 d = ![d.val] := by decide +kernel

theorem off3_eq : ∀ d : Dev nD, k0_off3 d = ![d.val, 0, 0] := by decide +kernel

theorem off4_eq : ∀ (d : Dev nD) (r : Fin 15),
    k0_off4 d (k0_off4_at r).1 (k0_off4_at r).2.1 (k0_off4_at r).2.2.1 (k0_off4_at r).2.2.2.1 (k0_off4_at r).2.2.2.2
      = ![256 * (ord d (up r)).val, 0] := by decide +kernel

theorem off5_eq : ∀ d : Dev nD, k0_off5 d = ![256 * d.val, 0] := by decide +kernel

theorem off6_eq : ∀ d : Dev nD, k0_off6 d = ![d.val, 0, 0] := by decide +kernel

theorem off7_eq : ∀ (d : Dev nD) (t : Fin 16),
    k0_off7 d (k0_off7_at t).1 (k0_off7_at t).2.1 (k0_off7_at t).2.2.1 (k0_off7_at t).2.2.2.1 (k0_off7_at t).2.2.2.2
      = ![256 * (ord d t).val, 0] := by decide +kernel

theorem off8_eq : ∀ (d : Dev nD) (t : Fin 16),
    k0_off8 d (k0_off8_at t).1 (k0_off8_at t).2.1 (k0_off8_at t).2.2.1 (k0_off8_at t).2.2.2.1 (k0_off8_at t).2.2.2.2
      = ![(ord d t).val, 0, 0] := by decide +kernel

theorem off9_eq : ∀ (d : Dev nD) (r : Fin 15),
    k0_off9 d (k0_off9_at r).1 (k0_off9_at r).2.1 (k0_off9_at r).2.2.1 (k0_off9_at r).2.2.2.1 (k0_off9_at r).2.2.2.2
      = ![(ord d (up r)).val, 0, 0] := by decide +kernel

end Cert.Rowwise
-- ==== Proof.Nice.lean ====
/-
The body over block numbers: every printed offset replaced by the block or slot it names.
-/
module

public import proofs.«01_k».proof.Proof.BodyEq
public import proofs.«01_k».proof.Proof.Order

@[expose] public section

set_option maxRecDepth 16384

noncomputable section

namespace Cert.Rowwise

open Cert.KernelIdeal Cert.KernelIdeal.Gen
open Idealize.ShloMosaic Idealize.SL.Sem

variable {F : FTy → Type} [FloatOps F]

/-! ### The side conditions at a block number -/

theorem inb16 : ∀ (s : Fin 16) (a), (![s.val] : Fin 1 → ℕ) a + S1.size a ≤ S16.size a := by decide +kernel
theorem inbX : ∀ (s : Fin 16) (a), (![s.val, 0, 0] : Fin 3 → ℕ) a + S1x256x256.size a ≤ S16x256x256.size a := by decide +kernel
theorem inbB : ∀ (s : Fin 16) (a), (![256 * s.val, 0] : Fin 2 → ℕ) a + S256x256.size a ≤ S4096x256.size a := by decide +kernel
theorem inbW : ∀ (s : Fin 16) (a), (![256 * s.val, 0] : Fin 2 → ℕ) a + S256x8192.size a ≤ S4096x8192.size a := by decide +kernel
theorem wordsX : ∀ s : Fin 16, (Rect.unit (s := S16x256x256) ![s.val, 0, 0] S1x256x256.size (inbX s)).WholeWords (EltTy.packing .bf16) := by
  decide +kernel
theorem packedX : ∀ s : Fin 16, (Rect.unit (s := S16x256x256) ![s.val, 0, 0] S1x256x256.size (inbX s)).PackedRows (EltTy.packing .bf16) := by
  decide +kernel
theorem wordsB : ∀ s : Fin 16, (Rect.unit (s := S4096x256) ![256 * s.val, 0] S256x256.size (inbB s)).WholeWords (EltTy.packing .bf16) := by
  decide +kernel

/-! ### The operations at a block number -/

/-- Send row block `e` of device `c` into slot `c` of device `e`. -/
def sendN (c e : Fin 16) : Prog (TpuEff nD τ sig (Elt F) Λ₀ .tc) PUnit :=
  sendOp e _ _ (inb16 e) (inb16 c) _ _ (wordsX c) _ _ (wordsB e)

/-- Wait until row block `e` has been read for its send. -/
def sentN (c e : Fin 16) : Prog (TpuEff nD τ sig (Elt F) Λ₀ .tc) PUnit :=
  sentOp _ (inb16 e) _ _ (wordsX c) _ _ (wordsB e)

/-- Wait until device `s`'s block has landed in slot `s`. -/
def landedN (s : Fin 16) : Prog (TpuEff nD τ sig (Elt F) Λ₀ .tc) PUnit := landedOp _ (inb16 s) _ _ (wordsX s)

/-- Start the copy of row block `s` of the weights into slot `k`. -/
def fetchN (s : Fin 16) (k : Fin 3) : Prog (TpuEff nD τ sig (Elt F) Λ₀ .tc) PUnit := fetchOp _ (inb3 k) _ (inbw k) _ (inbW s)

/-- Wait for it. -/
def fetchedN (s : Fin 16) (k : Fin 3) : Prog (TpuEff nD τ sig (Elt F) Λ₀ .tc) PUnit := fetchedOp _ (inb3 k) _ (inbw k) _ (inbW s)

/-- Keep row block `c` in slot `c`. -/
def keepN (c : Fin 16) : Prog (TpuEff nD τ sig (Elt F) Λ₀ .tc) PUnit := keepOp _ (inbB c) _ _ (packedX c)

/-- The arithmetic of step `t`, on slot `s` of the gathered blocks and slot `k` of the weights. -/
def mulN (t : ℕ) (s : Fin 16) (k : Fin 3) : Prog (TpuEff nD τ sig (Elt F) Λ₀ .tc) PUnit := mulOp t _ (inbX s) _ (inbw k)

/-- Step `t`'s look ahead: the copy of step `t + 2`'s weights, if there is such a step. -/
def aheadN (c : Fin 16) (t : Fin 16) : Prog (TpuEff nD τ sig (Elt F) Λ₀ .tc) PUnit :=
  if h : t.val + 2 < 16 then fetchN (ord c ⟨t.val + 2, h⟩) (slot3 (t.val + 2)) else pure ⟨⟩

/-- Step `t`'s wait for the block it multiplies: none at step 0, whose block is the device's own. -/
def arriveN (c : Fin 16) (t : Fin 16) : Prog (TpuEff nD τ sig (Elt F) Λ₀ .tc) PUnit :=
  if 0 < t.val then landedN (ord c t) else pure ⟨⟩

/-- Step `t` of device `c`'s main loop. -/
def stepN (c : Fin 16) (t : Fin 16) : Prog (TpuEff nD τ sig (Elt F) Λ₀ .tc) PUnit := do
  aheadN c t
  fetchedN (ord c t) (slot3 t.val)
  arriveN c t
  mulN t.val (ord c t) (slot3 t.val)

/-- The device `r + 1` places after `c`. -/
def nb (c : Dev nD) (r : Fin 15) : Dev nD := ⟨(c.val + r.val + 1) % 16, Nat.mod_lt _ (by decide)⟩

/-- The body over block numbers. -/
def body : Prog (TpuEff nD τ sig (Elt F) Λ₀ .tc) PUnit := do
  let d ← Prog.lift .deviceId
  each (fun r => semSignalWord (nb d r) barrier0 1#32) all15
  semWaitWord barrier0 15#32
  castOp
  each (fun r => sendN d (ord d (up r))) all15
  keepN d
  fetchN (ord d 0) 0
  fetchN (ord d 1) 1
  each (stepN d) all16
  each (fun r => sentN d (ord d (up r))) all15

/-! ### The printed offsets name these blocks -/

theorem sigDev_eq : ∀ d : Dev nD, sigDev d = all15.map (nb d) := by decide +kernel

theorem sendDev_eq : ∀ (d : Dev nD) (r : Fin 15), sendDev d r = ord d (up r) := by decide +kernel

theorem rawSend_eq (d : Dev nD) (r : Fin 15) : (rawSend d r : Prog (TpuEff nD τ sig (Elt F) Λ₀ .tc) PUnit) = sendN d (ord d (up r)) := by
  unfold rawSend sendN; congr 1
  exacts [sendDev_eq d r, off1_eq d r, off2_eq d, off3_eq d, off4_eq d r]

theorem rawSent_eq (d : Dev nD) (r : Fin 15) : (rawSent d r : Prog (TpuEff nD τ sig (Elt F) Λ₀ .tc) PUnit) = sentN d (ord d (up r)) := by
  unfold rawSent sentN; congr 1
  exacts [off1_eq d r, off3_eq d, off4_eq d r]

theorem rawFetch_eq (d : Dev nD) (t : Fin 16) :
    (rawFetch d t : Prog (TpuEff nD τ sig (Elt F) Λ₀ .tc) PUnit) = fetchN (ord d t) (slot3 t.val) := by
  unfold rawFetch fetchN; congr 1
  exact off7_eq d t

theorem rawFetched_eq (d : Dev nD) (t : Fin 16) :
    (rawFetched d t : Prog (TpuEff nD τ sig (Elt F) Λ₀ .tc) PUnit) = fetchedN (ord d t) (slot3 t.val) := by
  unfold rawFetched fetchedN; congr 1
  exact off7_eq d t

theorem rawLanded_eq (d : Dev nD) (r : Fin 15) : (rawLanded d r : Prog (TpuEff nD τ sig (Elt F) Λ₀ .tc) PUnit) = landedN (ord d (up r)) := by
  unfold rawLanded landedN; congr 1
  exacts [off1_eq d r, off9_eq d r]

theorem rawMul_eq (d : Dev nD) (t : Fin 16) :
    (mulOp t.val (k0_off8 d (k0_off8_at t).1 (k0_off8_at t).2.1 (k0_off8_at t).2.2.1 (k0_off8_at t).2.2.2.1 (k0_off8_at t).2.2.2.2)
      (k0_off8_inb d t) _ (inbw (slot3 t.val)) : Prog (TpuEff nD τ sig (Elt F) Λ₀ .tc) PUnit) = mulN t.val (ord d t) (slot3 t.val) := by
  unfold mulN; congr 1
  exact off8_eq d t

theorem rawStep_eq (d : Dev nD) (t : Fin 16) : (rawStep d t : Prog (TpuEff nD τ sig (Elt F) Λ₀ .tc) PUnit) = stepN d t := by
  have hp : ∀ h : 0 < t.val, up ⟨t.val - 1, by omega⟩ = t := fun h => Fin.ext (show t.val - 1 + 1 = t.val by omega)
  unfold rawStep stepN aheadN arriveN
  rw [← rawMul_eq d t]
  by_cases h₂ : t.val + 2 < 16 <;> by_cases h₀ : 0 < t.val <;>
    simp only [dif_pos, dif_neg, if_pos, if_neg, h₂, h₀, not_false_eq_true, rawFetch_eq, rawFetched_eq, rawLanded_eq, hp, pure_bind]

theorem each_map {α β : Type} (g : α → β) (f : β → Prog (TpuEff nD τ sig (Elt F) Λ₀ .tc) PUnit) (l : List α) :
    each f (l.map g) = each (fun a => f (g a)) l := by
  induction l with
  | nil => rfl
  | cons a l ih => simp only [List.map_cons, each, ih]

/-- The printed body is the body over block numbers. -/
theorem body_eq : cc0_body (Memref.whole cc0_stg0_0) (Memref.isWhole_whole _) (Memref.whole main_arg1) (Memref.isWhole_whole _)
    (Memref.whole cc0_stg1_0) (Memref.isWhole_whole _) (Memref.whole cc0_scratch0) (Memref.isWhole_whole _) (Memref.whole cc0_scratch1)
    (Memref.isWhole_whole _) (Memref.whole cc0_scratch2) (Memref.isWhole_whole _) cc0_scratch3 cc0_scratch4 cc0_scratch5
      = (body : Prog (TpuEff nD τ sig (Elt F) Λ₀ .tc) PUnit) := by
  rw [body_eq_raw]
  unfold rawBody body
  congr 1
  funext d
  rw [sigDev_eq, each_map, funext (rawSend_eq (F := F) d), funext (rawSent_eq (F := F) d), funext (rawStep_eq (F := F) d), rawFetch_eq, rawFetch_eq]
  have hk : (keepOp _ (k0_off5_inb d) _ _ (k0_off6_packedbf16 d) : Prog (TpuEff nD τ sig (Elt F) Λ₀ .tc) PUnit) = keepN d := by
    unfold keepN; congr 1
    exacts [off5_eq d, off6_eq d]
  rw [hk]
  rfl

end Cert.Rowwise
-- ==== Proof.Setup.lean ====
/-
The protocol's set-up: the resource algebra, the cells, the blocks of each buffer and what they hold.
-/
module

public import proofs.«01_k».proof.Proof.Nice
public import Idealize.ShloMosaic.Lib.Pipeline.Launch
public import Idealize.ShloMosaic.Lib.Pipeline.Kit
public import Idealize.ShloMosaic.Lib.Ring
public import Idealize.ShloMosaic.Lib.Rounds
public import Idealize.ShloMosaic.Lib.ValueIdx
public import Idealize.ShloMosaic.Lib.Tactic

@[expose] public section

set_option maxRecDepth 16384

noncomputable section

namespace Cert.Rowwise

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's, the exchange's, the weight copies' counters -/

abbrev UB : Type := URounds (GSem nD τ sig) (Fin 16)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The weight copies' counters. -/
abbrev EC : UEmb Counters (MT nD τ sig Unit (Elt F) ℕ UU ℕ) := countersEmb

abbrev 𝒱₀ : Variants := Variants.none

/-- A program of device `c`'s TensorCore run from the current state. -/
abbrev WP (c : Dev nD) (p : Prog (TpuEff nD τ sig (Elt F) Λ₀ .tc) PUnit) (Q : PUnit → sProp (MT nD τ sig Unit (Elt F) ℕ UU ℕ)) :
    sProp (MT nD τ sig Unit (Elt F) ℕ UU ℕ) :=
  wp frame (wpE (defs₀ (F := F)) 𝒱₀ (c : Thread nD τ) none) Set.univ p Q

/-! ## The cells -/

/-- Where block `s`'s send completes, where block `s`'s landing completes, where a copy into weight slot `k` completes. -/
abbrev sendS (s : Fin 16) : DmaSem sig := sem16 cc0_scratch4 ![s.val] (inb16 s)
abbrev recvS (s : Fin 16) : DmaSem sig := sem16 cc0_scratch5 ![s.val] (inb16 s)
abbrev wS (k : Fin 3) : DmaSem sig := sem3 ![k.val] (inb3 k)

theorem sendS_val : ∀ s : Fin 16, (sendS s).val = 5 + s.val := by decide +kernel
theorem recvS_val : ∀ s : Fin 16, (recvS s).val = 21 + s.val := by decide +kernel
theorem wS_val : ∀ k : Fin 3, (wS k).val = 2 + k.val := by decide +kernel

theorem sendS_inj {s t : Fin 16} (h : sendS s = sendS t) : s = t := by
  have := congrArg Fin.val h; rw [sendS_val, sendS_val] at this; exact Fin.ext (by omega)
theorem recvS_inj {s t : Fin 16} (h : recvS s = recvS t) : s = t := by
  have := congrArg Fin.val h; rw [recvS_val, recvS_val] at this; exact Fin.ext (by omega)
theorem sendS_ne_recvS (s t : Fin 16) : sendS s ≠ recvS t := fun h => by
  have := congrArg Fin.val h; rw [sendS_val, recvS_val] at this; have := s.isLt; omega

abbrev barCell (c : Dev nD) : GSem nD τ sig := ((c : Thread nD τ), .reg barrier0)
abbrev sendCell (c : Dev nD) (s : Fin 16) : GSem nD τ sig := ((c : Thread nD τ), .dma (sendS s))
abbrev recvCell (c : Dev nD) (s : Fin 16) : GSem nD τ sig := ((c : Thread nD τ), .dma (recvS s))

/-- The three kinds of cell of the exchange. -/
abbrev Kx : Type := Unit ⊕ (Fin 16 ⊕ Fin 16)
abbrev csem : Kx → SemLoc sig := fun
  | .inl _ => .reg barrier0
  | .inr (.inl s) => .dma (sendS s)
  | .inr (.inr s) => .dma (recvS s)
abbrev kcell (ck : Dev nD × Kx) : GSem nD τ sig := ((ck.1 : Thread nD τ), csem ck.2)

theorem csem_injective : Function.Injective csem := by
  rintro (⟨⟩ | s | s) (⟨⟩ | t | t) h
  · rfl
  · cases h
  · cases h
  · cases h
  · rw [sendS_inj (SemLoc.dma.inj h)]
  · exact absurd (SemLoc.dma.inj h) (sendS_ne_recvS s t)
  · cases h
  · exact absurd (SemLoc.dma.inj h).symm (sendS_ne_recvS t s)
  · rw [recvS_inj (SemLoc.dma.inj h)]

/-- The credit of one block of the exchange, and of one block of the weights. -/
abbrev NX : ℕ := (xgM ![(0 : Fin 16).val, 0, 0] (inbX 0)).view.dmaCredit
abbrev NW : ℕ := (wbM ![(0 : Fin 3).val, 0, 0] (inbw 0)).view.dmaCredit
theorem NX_pos : 0 < NX := View.dmaCredit_pos _ (by decide)
theorem NW_pos : 0 < NW := View.dmaCredit_pos _ (by decide)

theorem credit_xg (s : Fin 16) : (xgM ![s.val, 0, 0] (inbX s)).view.dmaCredit = NX := rfl
theorem credit_xb (e : Fin 16) : (xbM ![256 * e.val, 0] (inbB e)).view.dmaCredit = NX := rfl
theorem credit_wb (k : Fin 3) : (wbM ![k.val, 0, 0] (inbw k)).view.dmaCredit = NW := rfl

/-! ## The blocks -/

section Blocks
variable (c : Dev nD)

/-- Row block `e` of `c`'s bfloat16 copy of `x`, held at `f`. -/
def xbAt (e : Fin 16) (f : S4096x256.Idx → Elt F .bf16) : sProp 𝕄 :=
  (xbM ![256 * e.val, 0] (inbB e)).view.loc (c : Thread nD τ) ↦[(xbM ![256 * e.val, 0] (inbB e)).view.set]{fullShare} f
/-- Slot `s` of `c`'s gathered blocks, held at `f`. -/
def xgAt (s : Fin 16) (f : S16x256x256.Idx → Elt F .bf16) : sProp 𝕄 :=
  (xgM ![s.val, 0, 0] (inbX s)).view.loc (c : Thread nD τ) ↦[(xgM ![s.val, 0, 0] (inbX s)).view.set]{fullShare} f
/-- Slot `k` of `c`'s weight buffer, held at `f`. -/
def wbAt (k : Fin 3) (f : S3x256x8192.Idx → Elt F .f32) : sProp 𝕄 :=
  (wbM ![k.val, 0, 0] (inbw k)).view.loc (c : Thread nD τ) ↦[(wbM ![k.val, 0, 0] (inbw k)).view.set]{fullShare} f
/-- Row block `s` of `c`'s weights, held at `f`. -/
def wAt (s : Fin 16) (f : S4096x8192.Idx → Elt F .f32) : sProp 𝕄 :=
  (wM ![256 * s.val, 0] (inbW s)).view.loc (c : Thread nD τ) ↦[(wM ![256 * s.val, 0] (inbW s)).view.set]{fullShare} f

instance xbAt_storable (e : Fin 16) (f) : BI.Storable (upEmb : UEmb _ 𝕄) (xbAt (F := F) c e f) := by unfold xbAt; infer_instance
instance xgAt_storable (s : Fin 16) (f) : BI.Storable (upEmb : UEmb _ 𝕄) (xgAt (F := F) c s f) := by unfold xgAt; infer_instance

omit [FloatOps F] in
theorem xbSet (e : Fin 16) : (xbM ![256 * e.val, 0] (inbB e)).view.set = (Rect.unit (s := S4096x256) ![256 * e.val, 0] S256x256.size (inbB e)).set :=
  View.set_slice_whole _ _
omit [FloatOps F] in
theorem xgSet (s : Fin 16) : (xgM ![s.val, 0, 0] (inbX s)).view.set = (Rect.unit (s := S16x256x256) ![s.val, 0, 0] S1x256x256.size (inbX s)).set :=
  (View.set_reshape _ _).trans (View.set_slice_whole _ _)
omit [FloatOps F] in
theorem wbSet (k : Fin 3) : (wbM ![k.val, 0, 0] (inbw k)).view.set = (Rect.unit (s := S3x256x8192) ![k.val, 0, 0] S1x256x8192.size (inbw k)).set :=
  (View.set_reshape _ _).trans (View.set_slice_whole _ _)
omit [FloatOps F] in
theorem wSet (s : Fin 16) : (wM ![256 * s.val, 0] (inbW s)).view.set = (Rect.unit (s := S4096x8192) ![256 * s.val, 0] S256x8192.size (inbW s)).set :=
  View.set_slice_whole _ _

theorem xb_disj (e e' : Fin 16) (h : e ≠ e') : Disjoint (xbM ![256 * e.val, 0] (inbB e)).view.set (xbM ![256 * e'.val, 0] (inbB e')).view.set := by
  rw [xbSet, xbSet]
  exact Ring.lead_disjoint (s := S4096x256) (0 : Fin 2) 256 (fun e : Fin 16 => ![256 * e.val, 0]) S256x256.size inbB (fun _ => rfl) rfl e e' h
theorem xb_cover : (Finset.biUnion (β := S4096x256.Idx) Finset.univ (fun e : Fin 16 => ((xbM ![256 * e.val, 0] (inbB e)).view.set : Finset S4096x256.Idx))) = Finset.univ := by
  rw [show (fun e : Fin 16 => ((xbM ![256 * e.val, 0] (inbB e)).view.set : Finset S4096x256.Idx)) = fun e => (Rect.unit (s := S4096x256) ![256 * e.val, 0] S256x256.size (inbB e)).set from funext xbSet]
  exact Ring.lead_cover (s := S4096x256) (0 : Fin 2) 256 (fun e : Fin 16 => ![256 * e.val, 0]) S256x256.size inbB (fun _ => rfl)
    (fun _ a ha => by fin_cases a; exact absurd rfl ha; rfl) rfl (fun a ha => by fin_cases a; exact absurd rfl ha; rfl) rfl
omit [FloatOps F] in
/-- The row blocks of the copy of `x` are all of it; -/
theorem xb_blocks (f : S4096x256.Idx → Elt F .bf16) :
    (((c : Thread nD τ).loc cc0_scratch0) ↦{fullShare} f : sProp 𝕄) = bigSep Finset.univ fun e => xbAt c e f :=
  Ring.pointsTo_blocks (Ix := Unit) (Name := ℕ) (U := UU) (Lvl := ℕ) (Val := Elt F) (ℓ := (c : Thread nD τ).loc cc0_scratch0) _ xb_disj xb_cover f

theorem w_disj (e e' : Fin 16) (h : e ≠ e') : Disjoint (wM ![256 * e.val, 0] (inbW e)).view.set (wM ![256 * e'.val, 0] (inbW e')).view.set := by
  rw [wSet, wSet]
  exact Ring.lead_disjoint (s := S4096x8192) (0 : Fin 2) 256 (fun e : Fin 16 => ![256 * e.val, 0]) S256x8192.size inbW (fun _ => rfl) rfl e e' h
theorem w_cover : (Finset.biUnion (β := S4096x8192.Idx) Finset.univ (fun e : Fin 16 => ((wM ![256 * e.val, 0] (inbW e)).view.set : Finset S4096x8192.Idx))) = Finset.univ := by
  rw [show (fun e : Fin 16 => ((wM ![256 * e.val, 0] (inbW e)).view.set : Finset S4096x8192.Idx)) = fun e => (Rect.unit (s := S4096x8192) ![256 * e.val, 0] S256x8192.size (inbW e)).set from funext wSet]
  exact Ring.lead_cover (s := S4096x8192) (0 : Fin 2) 256 (fun e : Fin 16 => ![256 * e.val, 0]) S256x8192.size inbW (fun _ => rfl)
    (fun _ a ha => by fin_cases a; exact absurd rfl ha; rfl) rfl (fun a ha => by fin_cases a; exact absurd rfl ha; rfl) rfl
omit [FloatOps F] in
/-- the row blocks of the weights are all of them; -/
theorem w_blocks (f : S4096x8192.Idx → Elt F .f32) :
    (((c : Thread nD τ).loc main_arg1) ↦{fullShare} f : sProp 𝕄) = bigSep Finset.univ fun s => wAt c s f :=
  Ring.pointsTo_blocks (Ix := Unit) (Name := ℕ) (U := UU) (Lvl := ℕ) (Val := Elt F) (ℓ := (c : Thread nD τ).loc main_arg1) _ w_disj w_cover f

theorem xg_disj (e e' : Fin 16) (h : e ≠ e') : Disjoint (xgM ![e.val, 0, 0] (inbX e)).view.set (xgM ![e'.val, 0, 0] (inbX e')).view.set := by
  rw [xgSet, xgSet]
  exact Ring.lead_disjoint (s := S16x256x256) (0 : Fin 3) 1 (fun e : Fin 16 => ![e.val, 0, 0]) S1x256x256.size inbX (fun e => (Nat.one_mul e.val).symm) rfl e e' h
theorem xg_cover : (Finset.biUnion (β := S16x256x256.Idx) Finset.univ (fun e : Fin 16 => ((xgM ![e.val, 0, 0] (inbX e)).view.set : Finset S16x256x256.Idx))) = Finset.univ := by
  rw [show (fun e : Fin 16 => ((xgM ![e.val, 0, 0] (inbX e)).view.set : Finset S16x256x256.Idx)) = fun e => (Rect.unit (s := S16x256x256) ![e.val, 0, 0] S1x256x256.size (inbX e)).set from funext xgSet]
  exact Ring.lead_cover (s := S16x256x256) (0 : Fin 3) 1 (fun e : Fin 16 => ![e.val, 0, 0]) S1x256x256.size inbX (fun e => (Nat.one_mul e.val).symm)
    (fun _ a ha => by fin_cases a; exact absurd rfl ha; rfl; rfl) rfl (fun a ha => by fin_cases a; exact absurd rfl ha; rfl; rfl) rfl
omit [FloatOps F] in
/-- the slots of the gathered blocks are all of them; -/
theorem xg_blocks (f : S16x256x256.Idx → Elt F .bf16) :
    (((c : Thread nD τ).loc cc0_scratch1) ↦{fullShare} f : sProp 𝕄) = bigSep Finset.univ fun s => xgAt c s f :=
  Ring.pointsTo_blocks (Ix := Unit) (Name := ℕ) (U := UU) (Lvl := ℕ) (Val := Elt F) (ℓ := (c : Thread nD τ).loc cc0_scratch1) _ xg_disj xg_cover f

theorem wb_disj (e e' : Fin 3) (h : e ≠ e') : Disjoint (wbM ![e.val, 0, 0] (inbw e)).view.set (wbM ![e'.val, 0, 0] (inbw e')).view.set := by
  rw [wbSet, wbSet]
  exact Ring.lead_disjoint (s := S3x256x8192) (0 : Fin 3) 1 (fun e : Fin 3 => ![e.val, 0, 0]) S1x256x8192.size inbw (fun e => (Nat.one_mul e.val).symm) rfl e e' h
theorem wb_cover : (Finset.biUnion (β := S3x256x8192.Idx) Finset.univ (fun e : Fin 3 => ((wbM ![e.val, 0, 0] (inbw e)).view.set : Finset S3x256x8192.Idx))) = Finset.univ := by
  rw [show (fun e : Fin 3 => ((wbM ![e.val, 0, 0] (inbw e)).view.set : Finset S3x256x8192.Idx)) = fun e => (Rect.unit (s := S3x256x8192) ![e.val, 0, 0] S1x256x8192.size (inbw e)).set from funext wbSet]
  exact Ring.lead_cover (s := S3x256x8192) (0 : Fin 3) 1 (fun e : Fin 3 => ![e.val, 0, 0]) S1x256x8192.size inbw (fun e => (Nat.one_mul e.val).symm)
    (fun _ a ha => by fin_cases a; exact absurd rfl ha; rfl; rfl) rfl (fun a ha => by fin_cases a; exact absurd rfl ha; rfl; rfl) rfl
omit [FloatOps F] in
/-- the slots of the weight buffer are all of it; -/
theorem wb_blocks (f : S3x256x8192.Idx → Elt F .f32) :
    (((c : Thread nD τ).loc cc0_scratch2) ↦{fullShare} f : sProp 𝕄) = bigSep Finset.univ fun k => wbAt c k f :=
  Ring.pointsTo_blocks (Ix := Unit) (Name := ℕ) (U := UU) (Lvl := ℕ) (Val := Elt F) (ℓ := (c : Thread nD τ).loc cc0_scratch2) _ wb_disj wb_cover f

omit [FloatOps F] in
/-- and slots held at contents of their own are the buffer held at some contents. -/
theorem wb_join (f₀ : S3x256x8192.Idx → Elt F .f32) :
    bigSep Finset.univ (fun k => iprop(∃ f, wbAt c k f)) ⊢ (iprop(∃ f, ((c : Thread nD τ).loc cc0_scratch2) ↦{fullShare} f) : sProp 𝕄) :=
  Ring.pointsTo_blocks_join_exists (Ix := Unit) (Name := ℕ) (U := UU) (Lvl := ℕ) (Val := Elt F) (ℓ := (c : Thread nD τ).loc cc0_scratch2) _ wb_disj wb_cover f₀

end Blocks

end Cert.Rowwise
-- ==== Proof.Contents.lean ====
/-
What each buffer holds, and that each copy leaves it so.

The contents are functions of the staged inputs: `X c`, device `c`'s columns of `x`, and `Wt c`, its
copy of the weights.
-/
module

public import proofs.«01_k».proof.Proof.Setup
public import Idealize.ShloMosaic.Lib.ValueLayout

@[expose] public section

set_option maxRecDepth 16384

noncomputable section

namespace Cert.Rowwise

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Row `p` of row block `s`. -/
def row (s : Fin 16) (p : Fin 256) : Fin 4096 := ⟨256 * s.val + p.val, by have := s.isLt; have := p.isLt; omega⟩

variable (X : Dev nD → S4096x256.Idx → Elt F .f32) (Wt : Dev nD → S4096x8192.Idx → Elt F .f32)

/-- Device `c`'s bfloat16 copy of its columns of `x`. -/
def XB (c : Dev nD) : S4096x256.Idx → Elt F .bf16 := k0_pay1 (X c)

/-- Device `c`'s gathered blocks: slot `s` is row block `c` of device `s`'s columns. -/
def GX (c : Dev nD) : S16x256x256.Idx → Elt F .bf16 := fun i => XB X (i 0 : Fin 16) (ix2 (row c (i 1)) (i 2))

omit [FloatOps F] in
/-- A weight slot of device `c` after row block `s` of its weights has been copied in. -/
def LW (c : Dev nD) (s : Fin 16) : S3x256x8192.Idx → Elt F .f32 := fun i => Wt c (ix2 (row s (i 1)) (i 2))

/-- The gathered block of device `s` as device `c`'s arithmetic reads it, -/
def aBlk (c : Dev nD) (s : Fin 16) : Vec F S1x256x256 .bf16 := fun j => XB X s (ix2 (row c (j 1)) (j 2))
omit [FloatOps F] in
/-- the row block `s` of its weights, -/
def wBlk (c : Dev nD) (s : Fin 16) : Vec F S1x256x8192 .f32 := fun j => Wt c (ix2 (row s (j 1)) (j 2))

/-- the output after `t` steps (before the first it is anything: a block is put there to have a value), -/
def acc (c : Dev nD) : ℕ → FVec F S256x8192 .f32
  | 0 => k0_pay3 (aBlk X c c) (wBlk Wt c c)
  | t + 1 => upd t (aBlk X c (ord c (Fin.ofNat 16 t))) (wBlk Wt c (ord c (Fin.ofNat 16 t))) (acc c t)

/-- and at the end. -/
def outV (c : Dev nD) : FVec F S256x8192 .f32 := acc X Wt c 16

/-! ### Where the views place their elements -/

theorem xgEmb (s : Fin 16) (p q : Fin 256) : (xgM ![s.val, 0, 0] (inbX s)).view.emb (ix2 p q) = (ix3 s p q : S16x256x256.Idx) := by
  show (Rect.unit (s := S16x256x256) ![s.val, 0, 0] S1x256x256.size (inbX s)).emb (Shape.reshapeEquiv _ (ix2 p q)) = _
  rw [reshapeEquiv_ix2_1ab]
  funext a; fin_cases a <;> apply Fin.ext
  · show s.val + 1 * 0 = s.val; omega
  · show 0 + 1 * p.val = p.val; omega
  · show 0 + 1 * q.val = q.val; omega

theorem wbEmb (k : Fin 3) (p : Fin 256) (q : Fin 8192) : (wbM ![k.val, 0, 0] (inbw k)).view.emb (ix2 p q) = (ix3 k p q : S3x256x8192.Idx) := by
  show (Rect.unit (s := S3x256x8192) ![k.val, 0, 0] S1x256x8192.size (inbw k)).emb (Shape.reshapeEquiv _ (ix2 p q)) = _
  rw [reshapeEquiv_ix2_1ab]
  funext a; fin_cases a <;> apply Fin.ext
  · show k.val + 1 * 0 = k.val; omega
  · show 0 + 1 * p.val = p.val; omega
  · show 0 + 1 * q.val = q.val; omega

theorem xbEmb (e : Fin 16) (p q : Fin 256) : (xbM ![256 * e.val, 0] (inbB e)).view.emb (ix2 p q) = (ix2 (row e p) q : S4096x256.Idx) := by
  funext a; fin_cases a <;> apply Fin.ext
  · show 256 * e.val + 1 * p.val = 256 * e.val + p.val; omega
  · show 0 + 1 * q.val = q.val; omega

theorem wEmb (s : Fin 16) (p : Fin 256) (q : Fin 8192) : (wM ![256 * s.val, 0] (inbW s)).view.emb (ix2 p q) = (ix2 (row s p) q : S4096x8192.Idx) := by
  funext a; fin_cases a <;> apply Fin.ext
  · show 256 * s.val + 1 * p.val = 256 * s.val + p.val; omega
  · show 0 + 1 * q.val = q.val; omega

/-! ### What the copies leave -/

/-- Row block `e` of device `c`'s `x` sent into slot `c` of device `e` is that slot as gathered. -/
theorem sent_eq (c e : Fin 16) (fd : S16x256x256.Idx → Elt F .bf16) :
    ((xgM ![c.val, 0, 0] (inbX c)).view.loc (e : Thread nD τ) ↦[(xgM ![c.val, 0, 0] (inbX c)).view.set]{fullShare}
      ((xgM ![c.val, 0, 0] (inbX c)).view.write (Elt F) fd ((xbM ![256 * e.val, 0] (inbB e)).view.read (Elt F) (XB X c)) Finset.univ) : sProp 𝕄)
      = xgAt e c (GX X e) := by
  refine pointsTo_congr fun i hi => ?_
  obtain ⟨x, -, rfl⟩ := Finset.mem_map.mp hi
  refine (View.write_emb_of_mem (v := (xgM ![c.val, 0, 0] (inbX c)).view) fd _ (Finset.mem_univ x)).trans ?_
  obtain ⟨p, q, rfl⟩ : ∃ p q, x = ix2 p q := ⟨x 0, x 1, eq_ix2 x⟩
  rw [xgEmb]
  show XB X c ((xbM ![256 * e.val, 0] (inbB e)).view.emb (ix2 p q)) = _
  rw [xbEmb]; rfl

/-- Row block `s` of the weights copied into slot `k` is that slot as loaded. -/
theorem fetched_eq (c : Dev nD) (s : Fin 16) (k : Fin 3) (fd : S3x256x8192.Idx → Elt F .f32) :
    ((wbM ![k.val, 0, 0] (inbw k)).view.loc (c : Thread nD τ) ↦[(wbM ![k.val, 0, 0] (inbw k)).view.set]{fullShare}
      ((wbM ![k.val, 0, 0] (inbw k)).view.write (Elt F) fd ((wM ![256 * s.val, 0] (inbW s)).view.read (Elt F) (Wt c)) Finset.univ) : sProp 𝕄)
      = wbAt c k (LW Wt c s) := by
  refine pointsTo_congr fun i hi => ?_
  obtain ⟨x, -, rfl⟩ := Finset.mem_map.mp hi
  refine (View.write_emb_of_mem (v := (wbM ![k.val, 0, 0] (inbw k)).view) fd _ (Finset.mem_univ x)).trans ?_
  obtain ⟨p, q, rfl⟩ : ∃ p q, x = ix2 p q := ⟨x 0, x 1, eq_ix2 x⟩
  rw [wbEmb]
  show Wt c ((wM ![256 * s.val, 0] (inbW s)).view.emb (ix2 p q)) = _
  rw [wEmb]; rfl

/-- The rectangle of slot `s` of the gathered blocks, of slot `k` of the weights, of row block `e` of `x`. -/
abbrev rX (s : Fin 16) : Rect S16x256x256 := Rect.unit (s := S16x256x256) ![s.val, 0, 0] S1x256x256.size (inbX s)
abbrev rW (k : Fin 3) : Rect S3x256x8192 := Rect.unit (s := S3x256x8192) ![k.val, 0, 0] S1x256x8192.size (inbw k)
abbrev rB (e : Fin 16) : Rect S4096x256 := Rect.unit (s := S4096x256) ![256 * e.val, 0] S256x256.size (inbB e)

/-- The load of slot `s`, -/
theorem read_xg (c : Dev nD) (s : Fin 16) : (Memref.whole cc0_scratch1).view.readAt (Elt F) (rX s).toLoadRect (GX X c) = aBlk X c s := by
  funext j
  show GX X c ((rX s).emb j) = _
  have h : (rX s).emb j = (ix3 s (j 1) (j 2) : S16x256x256.Idx) := by
    funext a; fin_cases a <;> apply Fin.ext
    · show s.val + 1 * (j 0).val = s.val; have h0 : (j 0).val < 1 := (j 0).isLt; omega
    · show 0 + 1 * (j 1).val = (j 1).val; omega
    · show 0 + 1 * (j 2).val = (j 2).val; omega
  rw [h]; rfl

omit [FloatOps F] in
/-- of slot `k` of the weights, -/
theorem read_wb (c : Dev nD) (s : Fin 16) (k : Fin 3) :
    (Memref.whole cc0_scratch2).view.readAt (Elt F) (rW k).toLoadRect (LW Wt c s) = wBlk Wt c s := by
  funext j
  show LW Wt c s ((rW k).emb j) = _
  have h : (rW k).emb j = (ix3 k (j 1) (j 2) : S3x256x8192.Idx) := by
    funext a; fin_cases a <;> apply Fin.ext
    · show k.val + 1 * (j 0).val = k.val; have h0 : (j 0).val < 1 := (j 0).isLt; omega
    · show 0 + 1 * (j 1).val = (j 1).val; omega
    · show 0 + 1 * (j 2).val = (j 2).val; omega
  rw [h]; rfl

/-- and the block a device keeps: its own row block stored in its own slot is that slot as gathered. -/
theorem kept_eq (c : Dev nD) (f : S16x256x256.Idx → Elt F .bf16) :
    (((Memref.whole cc0_scratch1).access (rX c)).loc (c : Thread nD τ) ↦[(xgM ![c.val, 0, 0] (inbX c)).view.set]{fullShare}
      (((Memref.whole cc0_scratch1).access (rX c)).write (Elt F) f
        (k0_pay2 ((Memref.whole cc0_scratch0).view.readAt (Elt F) (rB c).toLoadRect (XB X c))) Finset.univ) : sProp 𝕄)
      = xgAt c c (GX X c) := by
  refine pointsTo_congr fun i hi => ?_
  obtain ⟨x, -, rfl⟩ := Finset.mem_map.mp hi
  obtain ⟨p, q, rfl⟩ : ∃ p q, x = ix2 p q := ⟨x 0, x 1, eq_ix2 x⟩
  rw [xgEmb]
  have h : (ix3 c p q : S16x256x256.Idx) = ((Memref.whole cc0_scratch1).access (rX c)).emb (ix3 (0 : Fin 1) p q) := by
    funext a; fin_cases a <;> apply Fin.ext
    · show c.val = c.val + 1 * 0; omega
    · show p.val = 0 + 1 * p.val; omega
    · show q.val = 0 + 1 * q.val; omega
  conv_lhs => rw [h]
  refine (View.write_emb_of_mem (v := (Memref.whole cc0_scratch1).access (rX c)) f _ (Finset.mem_univ (ix3 (0 : Fin 1) p q))).trans ?_
  refine (cast_eq _ _).trans ?_
  unfold k0_pay2
  refine (shapeCast_ab_1ab_apply _ _ _ _ _).trans ?_
  show XB X c ((rB c).emb (ix2 p q)) = _
  have h' : (rB c).emb (ix2 p q) = (ix2 (row c p) q : S4096x256.Idx) := xbEmb c p q
  rw [h']; rfl

end Cert.Rowwise
-- ==== Proof.Schedule.lean ====
/-
The schedule of the exchange's cells, what each device owes at launch, and the levels.
-/
module

public import proofs.«01_k».proof.Proof.Contents

@[expose] public section

set_option maxRecDepth 16384

noncomputable section

namespace Cert.Rowwise

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → S4096x256.Idx → Elt F .f32)

/-! ## The schedule -/

/-- The block a send or receive semaphore is for. -/
def slotOf (q : DmaSem sig) : Fin 16 := ⟨(q.val + 11) % 16, Nat.mod_lt _ (by decide)⟩

theorem slotOf_send (s : Fin 16) : slotOf (sendS s) = s :=
  Fin.ext (by show ((sendS s).val + 11) % 16 = s.val; rw [sendS_val]; have := s.isLt; omega)
theorem slotOf_recv (s : Fin 16) : slotOf (recvS s) = s :=
  Fin.ext (by show ((recvS s).val + 11) % 16 = s.val; rw [recvS_val]; have := s.isLt; omega)

/-- What device `p`'s signal to device `c` hands over: slot `c` of its gathered blocks, for `c`'s block to land in, and
    that its receive cell for that slot is open. -/
def barPay (c p : Dev nD) : sProp 𝕄 := iprop((∃ f, xgAt p c f) ∗ reached ER (recvCell p c) 0)

/-- The duties of device `c`'s semaphore: a signal from every other device, or one block from (to) another device. -/
def dset (c : Dev nD) : SemLoc sig → Finset (Fin 16)
  | .reg s => if s = barrier0 then Finset.univ.erase c else ∅
  | .dma q => if 5 ≤ q.val ∧ slotOf q ≠ c then {0} else ∅

/-- What a completed send or receive hands its device: the row block sent, or the block landed. -/
def dpay (c : Dev nD) (q : DmaSem sig) : sProp 𝕄 :=
  if q.val < 21 then xbAt c (slotOf q) (XB X c) else xgAt c (slotOf q) (GX X c)

/-- One round. -/
def exRd : Rounds.Schedule (GSem nD τ sig) (Fin 16) 𝕄 where
  duties g r := if r = 0 ∧ g.1.2 = .tc then dset g.1.1 g.2 else ∅
  unitless _ := False
  amount g _ _ := match g.2 with
    | .reg _ => 1
    | .dma _ => NX
  payload g _ d := match g.2 with
    | .reg _ => barPay g.1.1 d
    | .dma q => dpay X g.1.1 q
  amount_pos g _ _ _ := by
    obtain ⟨_, (_ | _)⟩ := g
    · exact Nat.one_pos
    · exact NX_pos

instance exRd_payload_storable (g : GSem nD τ sig) (r : ℕ) (d : Fin 16) :
    BI.Storable (upEmb : UEmb _ 𝕄) ((exRd (F := F) X).payload g r d) := by
  obtain ⟨t, (s | q)⟩ := g
  · show BI.Storable upEmb (barPay t.1 d); unfold barPay; infer_instance
  · show BI.Storable upEmb (dpay X t.1 q); unfold dpay; split <;> infer_instance

section Sched
variable (c s : Dev nD)

theorem duties_first (sm : SemLoc sig) : (exRd (F := F) X).duties ((c : Thread nD τ), sm) 0 = dset c sm := by
  dsimp only [exRd]; exact if_pos ⟨rfl, rfl⟩
theorem duties_bar : (exRd (F := F) X).duties (barCell c) 0 = Finset.univ.erase c :=
  (duties_first X c _).trans (by simp only [dset, if_true])
theorem duties_send (h : s ≠ c) : (exRd (F := F) X).duties (sendCell c s) 0 = {0} :=
  (duties_first X c _).trans (if_pos ⟨by rw [sendS_val]; omega, by rw [slotOf_send]; exact h⟩)
theorem duties_recv (h : s ≠ c) : (exRd (F := F) X).duties (recvCell c s) 0 = {0} :=
  (duties_first X c _).trans (if_pos ⟨by rw [recvS_val]; omega, by rw [slotOf_recv]; exact h⟩)
theorem duties_later (g : GSem nD τ sig) : ∀ r, 1 ≤ r → (exRd (F := F) X).duties g r = ∅ :=
  fun r hr => if_neg fun h => by omega
/-- The send and receive cells of a device's own block are never used. -/
theorem duties_send_own : ∀ r, 0 ≤ r → (exRd (F := F) X).duties (sendCell c c) r = ∅ := fun r _ => by
  show (if r = 0 ∧ _ then dset c (.dma (sendS c)) else ∅) = ∅
  rw [show dset c (.dma (sendS c)) = ∅ from if_neg fun h => h.2 (slotOf_send c), ite_self]
theorem duties_recv_own : ∀ r, 0 ≤ r → (exRd (F := F) X).duties (recvCell c c) r = ∅ := fun r _ => by
  show (if r = 0 ∧ _ then dset c (.dma (recvS c)) else ∅) = ∅
  rw [show dset c (.dma (recvS c)) = ∅ from if_neg fun h => h.2 (slotOf_recv c), ite_self]

theorem expect_bar : (exRd (F := F) X).expect (barCell c) 0 = 15 := by
  unfold Schedule.expect Schedule.amountOf
  rw [duties_bar, Finset.sum_congr rfl fun d _ => (show (exRd (F := F) X).amount (barCell c) 0 d = (fun _ : Fin 16 => 1) d from rfl), Finset.sum_const,
    Finset.card_erase_of_mem (Finset.mem_univ _)]
  rfl
theorem expect_send (h : s ≠ c) : (exRd (F := F) X).expect (sendCell c s) 0 = NX := by
  unfold Schedule.expect Schedule.amountOf; rw [duties_send X c s h, Finset.sum_singleton]; rfl
theorem expect_recv (h : s ≠ c) : (exRd (F := F) X).expect (recvCell c s) 0 = NX := by
  unfold Schedule.expect Schedule.amountOf; rw [duties_recv X c s h, Finset.sum_singleton]; rfl

theorem payload_bar (d : Dev nD) : (exRd (F := F) X).payload (barCell c) 0 d = barPay c d := rfl
theorem payload_send (d : Fin 16) : (exRd (F := F) X).payload (sendCell c s) 0 d = xbAt c s (XB X c) := by
  show dpay X c (sendS s) = _
  unfold dpay; rw [slotOf_send, sendS_val, if_pos (by have := s.isLt; have : s.val < 16 := s.isLt; omega)]
theorem payload_recv (d : Fin 16) : (exRd (F := F) X).payload (recvCell c s) 0 d = xgAt c s (GX X c) := by
  show dpay X c (recvS s) = _
  unfold dpay; rw [slotOf_recv, recvS_val, if_neg (by omega)]

/-- All of a barrier cell's round: every other device's payload; -/
theorem rest_bar : bigSep ((exRd (F := F) X).duties (barCell c) 0 \ ∅) (fun d => (exRd (F := F) X).payload (barCell c) 0 d)
    = bigSep (Finset.univ.erase c) fun p => barPay c p := by
  rw [Finset.sdiff_empty, duties_bar]; rfl
/-- all of a send cell's: the row block; -/
theorem rest_send (h : s ≠ c) : bigSep ((exRd (F := F) X).duties (sendCell c s) 0 \ ∅) (fun d => (exRd (F := F) X).payload (sendCell c s) 0 d)
    = xbAt c s (XB X c) := by
  rw [Finset.sdiff_empty, duties_send X c s h, bigSep_singleton, payload_send]
/-- all of a receive cell's: the block landed. -/
theorem rest_recv (h : s ≠ c) : bigSep ((exRd (F := F) X).duties (recvCell c s) 0 \ ∅) (fun d => (exRd (F := F) X).payload (recvCell c s) 0 d)
    = xgAt c s (GX X c) := by
  rw [Finset.sdiff_empty, duties_recv X c s h, bigSep_singleton, payload_recv]

end Sched

/-! ## What each core owes; the levels -/

/-- What device `c` owes with its sends from the `n`-th on to make: a block's credit to each receive cell they raise. -/
def OR (c : Dev nD) (n : ℕ) : CellTallies nD τ sig Unit :=
  ∑ r : Fin 15, if n ≤ r.val then tallyAt (recvCell (ord c (up r)) c) () NX else 0
/-- What device `c` owes with its signals from the `n`-th on, and all its sends, to make. -/
def OB (c : Dev nD) (n : ℕ) : CellTallies nD τ sig Unit :=
  OR c 0 + ∑ r : Fin 15, if n ≤ r.val then tallyAt (barCell (nb c r)) () 1 else 0

theorem sum_from {M : Type} [AddCommMonoid M] (f : Fin 15 → M) (r : Fin 15) :
    (∑ i : Fin 15, if r.val ≤ i.val then f i else 0) = (∑ i : Fin 15, if r.val + 1 ≤ i.val then f i else 0) + f r := by
  rw [← Finset.add_sum_erase _ (fun i : Fin 15 => if r.val ≤ i.val then f i else 0) (Finset.mem_univ r),
    ← Finset.add_sum_erase _ (fun i : Fin 15 => if r.val + 1 ≤ i.val then f i else 0) (Finset.mem_univ r), if_pos le_rfl, if_neg (by omega),
    zero_add, add_comm]
  refine congrArg (· + f r) (Finset.sum_congr rfl fun i hi => ?_)
  have hne : i ≠ r := (Finset.mem_erase.mp hi).1
  have : i.val ≠ r.val := fun h => hne (Fin.ext h)
  by_cases h : r.val ≤ i.val
  · rw [if_pos h, if_pos (by omega)]
  · rw [if_neg h, if_neg (by omega)]

theorem sum_past {M : Type} [AddCommMonoid M] (f : Fin 15 → M) : (∑ i : Fin 15, if 15 ≤ i.val then f i else 0) = 0 :=
  Finset.sum_eq_zero fun i _ => if_neg (by have := i.isLt; omega)

/-- A send pays one receive cell's credit; -/
theorem OR_step (c : Dev nD) (r : Fin 15) : OR c r.val = OR c (r.val + 1) + tallyAt (recvCell (ord c (up r)) c) () NX := sum_from _ r
/-- a signal one barrier cell's unit; -/
theorem OB_step (c : Dev nD) (r : Fin 15) : OB c r.val = OB c (r.val + 1) + tallyAt (barCell (nb c r)) () 1 := by
  unfold OB; rw [sum_from _ r, add_assoc]
/-- after the signals the sends remain, -/
theorem OB_last (c : Dev nD) : OB c 15 = OR c 0 := by unfold OB; rw [sum_past, add_zero]
/-- and after them nothing. -/
theorem OR_last (c : Dev nD) : OR c 15 = 0 := sum_past _

def L (g : GSem nD τ sig) : Finset Unit := if g.1.2 = .tc then {()} else ∅
/-- Barrier cells at 1, receive cells at 2, everything else (staging, weights, sends) at 0. -/
def lv (g : GSem nD τ sig) (_ : Unit) : ℕ := match g.2 with
  | .reg _ => 1
  | .dma q => if 21 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c s : Dev nD) : lv (recvCell c s) () = 2 := if_pos (by rw [recvS_val]; omega)

theorem sum_pos {n : ℕ} {f : Fin 15 → CellTallies nD τ sig Unit} {g : GSem nD τ sig} {u : Unit}
    (h : 0 < (∑ r : Fin 15, if n ≤ r.val then f r else 0) g u) : ∃ r, 0 < f r g u := by
  by_contra hn
  refine absurd h (Nat.not_lt.mpr (Nat.le_of_eq ?_))
  rw [Finset.sum_apply, Finsupp.finset_sum_apply]
  refine Finset.sum_eq_zero fun r _ => ?_
  by_cases hr : n ≤ r.val
  · rw [if_pos hr]; exact Nat.eq_zero_of_not_pos fun h' => hn ⟨r, h'⟩
  · rw [if_neg hr]; rfl

theorem tally_pos {g₀ g : GSem nD τ sig} {u : Unit} {k : ℕ} (h : 0 < tallyAt g₀ () k g u) : g = g₀ := by
  rw [tallyAt_apply] at h
  by_contra hn
  rw [if_neg fun h' => hn h'.1] at h
  exact Nat.lt_irrefl 0 h

/-- A device owes receive cells, -/
theorem OR_pos {c : Dev nD} {n : ℕ} {g : GSem nD τ sig} {u : Unit} (h : 0 < OR c n g u) : ∃ e, g = recvCell e c :=
  have ⟨r, hr⟩ := sum_pos h; ⟨_, tally_pos hr⟩
/-- and before its signals are made barrier cells. -/
theorem OB_pos {c : Dev nD} {n : ℕ} {g : GSem nD τ sig} {u : Unit} (h : 0 < OB c n g u) : (∃ e, g = recvCell e c) ∨ ∃ e, g = barCell e := by
  unfold OB at h
  rw [Pi.add_apply, Finsupp.add_apply] at h
  rcases Nat.eq_zero_or_pos (OR c 0 g u) with h0 | h0
  · rw [h0, zero_add] at h
    have ⟨r, hr⟩ := sum_pos h
    exact .inr ⟨_, tally_pos hr⟩
  · exact .inl (OR_pos h0)

omit [FloatOps F] in
/-- A staging copy may be waited for with everything owed: it is below all of that; -/
theorem mayWait_stage (c : Dev nD) (q : DmaSem sig) (hq : q.val < 21) (O : CellTallies nD τ sig Unit) (hO : O = OB c 0 ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases OB_pos hg with ⟨e, rfl⟩ | ⟨e, rfl⟩ <;> exact Finset.mem_singleton_self _)
      (fun p hp => by rw [Finset.mem_singleton.mp hp]; exact Nat.le_of_eq (if_neg (by omega)))
      (fun g u hg => by
        rcases OB_pos hg with ⟨e, rfl⟩ | ⟨e, rfl⟩
        · rw [lv_recv]; decide
        · rw [lv_bar]; decide)
  · rw [MayWait_zero]; iintro -; iempintro

omit [FloatOps F] in
/-- and at the barrier wait a device owes receive cells only, above its barrier cell. -/
theorem mayWait_bar (c : Dev nD) : (levAts L lv : sProp 𝕄) ⊢ MayWait (c : Thread nD τ) (.reg barrier0) () (OR c 0) :=
  MayOwe.of_cut (L := L) (lev := lv) 1 (fun p hp => by rw [Finset.mem_singleton.mp hp, L_tc]; exact Finset.mem_singleton_self _)
    (fun g u hg => by obtain ⟨e, rfl⟩ := OR_pos hg; exact Finset.mem_singleton_self _)
    (fun p hp => by rw [Finset.mem_singleton.mp hp]; exact Nat.le_of_eq rfl)
    (fun g u hg => by obtain ⟨e, rfl⟩ := OR_pos hg; rw [lv_recv]; decide)

end Cert.Rowwise
-- ==== Proof.Ops.lean ====
/-
One operation of the body at a time: what it takes and what it leaves.
-/
module

public import proofs.«01_k».proof.Proof.Schedule
public import Idealize.ShloMosaic.Lib.Transfers

@[expose] public section

set_option maxRecDepth 16384

noncomputable section

namespace Cert.Rowwise

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → S4096x256.Idx → Elt F .f32) (Wt : Dev nD → S4096x8192.Idx → Elt F .f32)

/-- What device `c` owes, its record of waits whatever it is. -/
def owesS (c : Dev nD) (O : CellTallies nD τ sig Unit) : sProp 𝕄 := iprop(∃ W, owes (c : Thread nD τ) O W)

/-- Row block `e` sent from device `c` to device `e`: it takes the block, the slot it lands in and both completions' duties. -/
theorem wp_sendN {κ₁ κ₂ : ℕ} (c e : Dev nD) (h : e ≠ c) (O : CellTallies nD τ sig Unit) :
    iprop(cellInv ER (exRd X) κ₁ (sendCell c e) ∗ cellInv ER (exRd X) κ₂ (recvCell e c)
        ∗ xbAt c e (XB X c) ∗ (∃ f, xgAt e c f) ∗ owesS c (O + tallyAt (recvCell e c) () NX)
        ∗ dutyTok ER (sendCell c e) 0 0 ∗ reached ER (sendCell c e) 0
        ∗ dutyTok ER (recvCell e c) 0 0 ∗ reached ER (recvCell e c) 0)
      ⊢ WP c (sendN c e) (fun _ => iprop(cred (tallyAt (sendCell c e) () NX) ∗ owesS c O)) := by
  unfold sendN sendOp owesS
  simp only [Prog.lift]
  iintro ⟨HIs, HIr, Hb, ⟨%fd, Hg⟩, ⟨%W, HO⟩, HtS, HrS, HtR, HrR⟩
  unfold xbAt xgAt
  iapply (Rounds.wp_send_pointsTo 𝒱₀ ER (exRd X) (c : Thread nD τ) none (κ₁ := κ₁) (κ₂ := κ₂)
    (r₁ := 0) (r₂ := 0) (d₁ := (0 : Fin 16)) (d₂ := (0 : Fin 16)) (fd := fd)
    (by rw [duties_send X c e h]; exact Finset.mem_singleton_self _) (by rw [duties_recv X e c h.symm]; exact Finset.mem_singleton_self _)
    () () NX rfl rfl rfl O rfl (W := W)
    (by rw [payload_send]; exact BI.Entails.refl _)
    (by rw [payload_recv, sent_eq X c e fd])) $$ [HIs HIr Hb Hg HO HtS HrS HtR HrR]
  · isplitl [HIs]; · iexact HIs
    isplitl [HIr]; · iexact HIr
    isplitl [Hb]; · iexact Hb
    isplitl [Hg]; · iexact Hg
    isplitl [HO]; · iexact HO
    isplitl [HtS]; · iexact HtS
    isplitl [HrS]; · iexact HrS
    isplitl [HtR]; · iexact HtR
    iexact HrR
  iintro ⟨Hc, HO⟩
  rw [wp_ret]; imodintro
  isplitl [Hc]; · iexact Hc
  iexists W; iexact HO

/-- The wait for a send gives its row block back, and the semaphore at zero. -/
theorem wp_sentN {κ : ℕ} (c e : Dev nD) (h : e ≠ c) :
    iprop(cellInv ER (exRd X) κ (sendCell c e) ∗ cred (tallyAt (sendCell c e) () NX) ∗ owesS c 0 ∗ atPos ER (sendCell c e) 0 ∅ 0)
      ⊢ WP c (sentN c e) (fun _ => iprop(xbAt c e (XB X c) ∗ semVal (sendCell c e) 0 ∗ owesS c 0)) := by
  unfold sentN sentOp owesS
  simp only [Prog.lift]
  iintro ⟨#HI, Hc, ⟨%W, HO⟩, Hat⟩
  iapply (Rounds.wp_wait_rest_token 𝒱₀ ER (exRd X) (c : Thread nD τ) none (κ := κ)
      (wpE_waitDma2_eq 𝒱₀ (c : Thread nD τ) none Set.univ) (Set.mem_univ _) () (O := 0) (W := W) (R := 0) (m := 0) (T := ∅)
      (by rw [Nat.zero_add, expect_send X c e h])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hb := (Entails.of_eq (rest_send X c e h)) $$ Hpay
  imod (Rounds.cell_close ER (exRd X) (Set.mem_univ κ) (fun h => h) (R := 0 + 1) (duties_later X (sendCell c e))) $$ [Hat] with Hat
  · isplitr; · iexact HI
    iexact Hat
  rw [wp_ret]; imodintro
  isplitl [Hb]; · iexact Hb
  isplitl [Hat]; · iexact Hat
  iexists _; iexact HO

/-- The wait for a block gives its slot, holding the block, and the semaphore at zero. -/
theorem wp_landedN {κ : ℕ} (c s : Dev nD) (h : s ≠ c) :
    iprop(cellInv ER (exRd X) κ (recvCell c s) ∗ cred (tallyAt (recvCell c s) () NX) ∗ owesS c 0 ∗ atPos ER (recvCell c s) 0 ∅ 0)
      ⊢ WP c (landedN s) (fun _ => iprop(xgAt c s (GX X c) ∗ semVal (recvCell c s) 0 ∗ owesS c 0)) := by
  unfold landedN landedOp owesS
  simp only [Prog.lift]
  iintro ⟨#HI, Hc, ⟨%W, HO⟩, Hat⟩
  iapply (Rounds.wp_wait_rest_token 𝒱₀ ER (exRd X) (c : Thread nD τ) none (κ := κ)
      (wpE_waitDma2_eq 𝒱₀ (c : Thread nD τ) none Set.univ) (Set.mem_univ _) () (O := 0) (W := W) (R := 0) (m := 0) (T := ∅)
      (by rw [Nat.zero_add, expect_recv X c s h])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hb := (Entails.of_eq (rest_recv X c s h)) $$ Hpay
  imod (Rounds.cell_close ER (exRd X) (Set.mem_univ κ) (fun h => h) (R := 0 + 1) (duties_later X (recvCell c s))) $$ [Hat] with Hat
  · isplitr; · iexact HI
    iexact Hat
  rw [wp_ret]; imodintro
  isplitl [Hb]; · iexact Hb
  isplitl [Hat]; · iexact Hat
  iexists _; iexact HO

/-- A signal to device `p`'s barrier hands over slot `p` of the gathered blocks. -/
theorem wp_signalN {κ : ℕ} (c p : Dev nD) (h : p ≠ c) (O : CellTallies nD τ sig Unit) :
    iprop(cellInv ER (exRd X) κ (barCell p) ∗ owesS c (O + tallyAt (barCell p) () 1) ∗ dutyTok ER (barCell p) 0 c ∗ (∃ f, xgAt c p f)
        ∗ reached ER (recvCell c p) 0 ∗ reached ER (barCell p) 0)
      ⊢ WP c (semSignalWord p barrier0 1#32) (fun _ => owesS c O) := by
  unfold owesS
  simp only [semSignalWord, Prog.lift]
  iintro ⟨HI, ⟨%W, HO⟩, Ht, Hg, HrR, HrB⟩
  iapply (Rounds.wp_signal 𝒱₀ ER (exRd X) (c : Thread nD τ) none (dst := (p : Thread nD τ)) (κ := κ)
      (d := c) (by rw [duties_bar]; exact Finset.mem_erase.mpr ⟨h.symm, Finset.mem_univ _⟩)
      (show (exRd (F := F) X).amount (barCell p) 0 c = (1#32).toNat from rfl) () O rfl) $$ [HI HO Ht Hg HrR HrB]
  · isplitl [HI]; · iexact HI
    isplitl [HO]; · iexact HO
    isplitl [Ht]; · iexact Ht
    isplitl [Hg HrR]
    · rw [payload_bar]; unfold barPay
      isplitl [Hg]; · iexact Hg
      iexact HrR
    iexact HrB
  iintro HO
  rw [wp_ret]; imodintro
  iexists W; iexact HO

/-- The wait on the own barrier gives the slot for this device's block in every other device. -/
theorem wp_barrierN {κ : ℕ} (c : Dev nD) :
    iprop(cellInv ER (exRd X) κ (barCell c) ∗ cred (tallyAt (barCell c) () 15) ∗ owesS c (OR c 0) ∗ levAts L lv ∗ atPos ER (barCell c) 0 ∅ 0)
      ⊢ WP c (semWaitWord barrier0 15#32) (fun _ => iprop((bigSep (Finset.univ.erase c) fun p => barPay c p) ∗ semVal (barCell c) 0 ∗ owesS c (OR c 0))) := by
  unfold owesS
  simp only [semWaitWord, Prog.lift]
  iintro ⟨#HI, Hc, ⟨%W, HO⟩, Hlev, Hat⟩
  iapply (Rounds.wp_wait_rest_token 𝒱₀ ER (exRd X) (c : Thread nD τ) none (κ := κ)
      (wpE_semWait_eq 𝒱₀ (c : Thread nD τ) none Set.univ) (Set.mem_univ _) () (O := OR c 0) (W := W) (R := 0) (m := 0) (T := ∅)
      (by rw [expect_bar]; decide)) $$ [Hc HO Hat Hlev]
  · isplitr; · iexact HI
    isplitl [Hc]; · iexact Hc
    isplitl [HO]; · iexact HO
    isplitl [Hlev]; · iapply (mayWait_bar c); iexact Hlev
    iexact Hat
  iintro ⟨HO, Hat, -, Hpay⟩
  ihave Hb := (Entails.of_eq (rest_bar X c)) $$ Hpay
  imod (Rounds.cell_close ER (exRd X) (Set.mem_univ κ) (fun h => h) (R := 0 + 1) (duties_later X (barCell c))) $$ [Hat] with Hat
  · isplitr; · iexact HI
    iexact Hat
  rw [wp_ret]; imodintro
  isplitl [Hb]; · iexact Hb
  isplitl [Hat]; · iexact Hat
  iexists _; iexact HO

/-! ### The weight copies -/

/-- What a copy of row block `s` of the weights into slot `k` delivers. -/
def fetchD (c : Dev nD) (s : Fin 16) (k : Fin 3) : sProp 𝕄 := iprop(wbAt c k (LW Wt c s) ∗ wAt c s (Wt c))
/-- That copy under way. -/
def flightW (c : Dev nD) (s : Fin 16) (k : Fin 3) : sProp 𝕄 := Transfers.Flight EC (c : Thread nD τ) (.dma (wS k)) () NW (fetchD Wt c s k)

/-- A copy's start: it takes the row block, the slot and the slot's semaphore at zero. -/
theorem wp_fetchN (c : Dev nD) (s : Fin 16) (k : Fin 3) :
    iprop(wAt c s (Wt c) ∗ (∃ f, wbAt c k f) ∗ semVal ((c : Thread nD τ), .dma (wS k)) 0)
      ⊢ WP c (fetchN s k) (fun _ => flightW Wt c s k) := by
  unfold fetchN fetchOp
  simp only [Prog.lift]
  iintro ⟨Hw, ⟨%fd, Hb⟩, Hv⟩
  unfold wAt wbAt
  iapply (Transfers.wp_dmaLocal EC 𝒱₀ (c : Thread nD τ) none () NW rfl NW_pos (Finset.Subset.refl _)) $$ [Hw Hb Hv]
  · isplitl [Hw]; · iexact Hw
    isplitl [Hb]; · iexact Hb
    iexact Hv
  iintro Hf
  rw [wp_ret]; imodintro
  unfold flightW
  iapply (Transfers.Flight_mono EC (c : Thread nD τ) (D' := fetchD Wt c s k)
    (by unfold fetchD; exact sep_mono_left (Entails.of_eq (fetched_eq Wt c s k fd)))) $$ Hf

/-- Its wait: the slot holding the row block, the row block itself and the semaphore at zero again. -/
theorem wp_fetchedN (c : Dev nD) (s : Fin 16) (k : Fin 3) :
    iprop(flightW Wt c s k ∗ owesS c 0)
      ⊢ WP c (fetchedN s k) (fun _ => iprop(wbAt c k (LW Wt c s) ∗ wAt c s (Wt c) ∗ semVal ((c : Thread nD τ), .dma (wS k)) 0 ∗ owesS c 0)) := by
  unfold fetchedN fetchedOp owesS flightW
  simp only [Prog.lift]
  iintro ⟨Hf, ⟨%W, HO⟩⟩
  iapply (Transfers.wp_waitLocal EC 𝒱₀ (c : Thread nD τ) none () (W := W) rfl) $$ [Hf HO]
  · isplitl [Hf]; · iexact Hf
    iexact HO
  iintro ⟨HD, Hv, HO⟩
  unfold fetchD
  icases HD with ⟨Hb, Hw⟩
  rw [wp_ret]; imodintro
  isplitl [Hb]; · iexact Hb
  isplitl [Hw]; · iexact Hw
  isplitl [Hv]; · iexact Hv
  iexists _; iexact HO

/-! ### The loads and stores -/

theorem hz2 : (![0, 0] : Fin 2 → Nat) = fun _ => 0 := funext fun a => by fin_cases a <;> rfl

/-- All of `xb`, as a rectangle. -/
abbrev rXB : Rect S4096x256 := Rect.unit (s := S4096x256) ![0, 0] S4096x256.size inb_S4096x256_S4096x256_0_0

omit [FloatOps F] in
theorem read_x (f : S4096x256.Idx → Elt F .f32) : (Memref.whole cc0_stg0_0).view.readAt (Elt F) rXB.toLoadRect f = f :=
  Memref.readAt_unit_zero (Elt F) cc0_stg0_0 hz2 _ f
omit [FloatOps F] in
theorem write_xb (f w : S4096x256.Idx → Elt F .bf16) :
    ((Memref.whole cc0_scratch0).access rXB : View sig .tc _ _ _).write (Elt F) f w Finset.univ = w :=
  Memref.write_access_unit_zero_univ (Elt F) cc0_scratch0 hz2 _ f w
omit [FloatOps F] in
theorem read_out (f : FVec F S256x8192 .f32) : (Memref.whole cc0_stg1_0).view.readAt (Elt F) rOut.toLoadRect f = f :=
  Memref.readAt_unit_zero (Elt F) cc0_stg1_0 hz2 _ f
omit [FloatOps F] in
theorem write_out (f w : FVec F S256x8192 .f32) :
    ((Memref.whole cc0_stg1_0).access rOut : View sig .tc _ _ _).write (Elt F) f w Finset.univ = w :=
  Memref.write_access_unit_zero_univ (Elt F) cc0_stg1_0 hz2 _ f w

/-- The cast leaves the bfloat16 copy of `x`. -/
theorem wp_castOp (c : Dev nD) (f : S4096x256.Idx → Elt F .bf16) :
    iprop((((c : Thread nD τ).loc cc0_stg0_0) ↦{fullShare} X c) ∗ (((c : Thread nD τ).loc cc0_scratch0) ↦{fullShare} f))
      ⊢ WP c castOp (fun _ => iprop((((c : Thread nD τ).loc cc0_stg0_0) ↦{fullShare} X c) ∗ (((c : Thread nD τ).loc cc0_scratch0) ↦{fullShare} XB X c))) := by
  unfold castOp
  simp only [Prog.lift, Prog.bind_op, Prog.bind_ret]
  iintro ⟨Hx, Hb⟩
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_scratch0) (Finset.subset_univ _)) $$ Hb; iintro Hb
  iapply (wp_store 𝒱₀ (c : Thread nD τ) none Set.univ (m := Memref.whole cc0_scratch0) (r := rXB) (Mk := Finset.univ) (Finset.subset_univ _)) $$ Hb; iintro Hb
  rw [wp_ret]; imodintro
  isplitl [Hx]; · iexact Hx
  rw [read_x, write_xb]
  iexact Hb

theorem rX_sub (s : Fin 16) : (Memref.whole cc0_scratch1).view.setOn (rX s).set ⊆ (xgM ![s.val, 0, 0] (inbX s)).view.set := by
  rw [xgSet]; intro i hi
  obtain ⟨x, hx, rfl⟩ := Finset.mem_map.mp hi
  exact hx
theorem rB_sub (s : Fin 16) : (Memref.whole cc0_scratch0).view.setOn (rB s).set ⊆ (xbM ![256 * s.val, 0] (inbB s)).view.set := by
  rw [xbSet]; intro i hi
  obtain ⟨x, hx, rfl⟩ := Finset.mem_map.mp hi
  exact hx
theorem rW_sub (k : Fin 3) : (Memref.whole cc0_scratch2).view.setOn (rW k).set ⊆ (wbM ![k.val, 0, 0] (inbw k)).view.set := by
  rw [wbSet]; intro i hi
  obtain ⟨x, hx, rfl⟩ := Finset.mem_map.mp hi
  exact hx
theorem rX_sub' (s : Fin 16) : ((Memref.whole cc0_scratch1).access (rX s)).setOn Finset.univ ⊆ (xgM ![s.val, 0, 0] (inbX s)).view.set := by
  rw [xgSet]
  exact Finset.Subset.trans (View.setOn_subset_set _ _) (View.set_slice_whole _ _).subset

/-- A device keeps its own row block. -/
theorem wp_keepN (c : Dev nD) :
    iprop(xbAt c c (XB X c) ∗ (∃ f, xgAt c c f)) ⊢ WP c (keepN c) (fun _ => iprop(xbAt c c (XB X c) ∗ xgAt c c (GX X c))) := by
  unfold keepN keepOp
  simp only [Prog.lift, Prog.bind_op, Prog.bind_ret]
  iintro ⟨Hb, ⟨%f, Hg⟩⟩
  unfold xbAt
  iapply (wp_load 𝒱₀ (c : Thread nD τ) none Set.univ (m := Memref.whole cc0_scratch0) (rB_sub c)) $$ Hb; iintro Hb
  conv => lhs; unfold xgAt
  iapply (wp_load 𝒱₀ (c : Thread nD τ) none Set.univ (m := Memref.whole cc0_scratch1) (rX_sub c)) $$ Hg; iintro Hg
  iapply (wp_store 𝒱₀ (c : Thread nD τ) none Set.univ (m := Memref.whole cc0_scratch1) (r := rX c) (Mk := Finset.univ) (rX_sub' c)) $$ Hg; iintro Hg
  rw [wp_ret]; imodintro
  isplitl [Hb]; · iexact Hb
  iapply (Entails.of_eq (kept_eq X c f)); iexact Hg

/-- The arithmetic of step `t` takes the output from after `t` steps to after `t + 1`. -/
theorem wp_mulN (c : Dev nD) (t : Fin 16) (k : Fin 3) (f : FVec F S256x8192 .f32) (hf : t.val = 0 ∨ f = acc X Wt c t.val) :
    iprop(xgAt c (ord c t) (GX X c) ∗ wbAt c k (LW Wt c (ord c t)) ∗ (((c : Thread nD τ).loc cc0_stg1_0) ↦{fullShare} f))
      ⊢ WP c (mulN t.val (ord c t) k) (fun _ => iprop(xgAt c (ord c t) (GX X c) ∗ wbAt c k (LW Wt c (ord c t))
          ∗ (((c : Thread nD τ).loc cc0_stg1_0) ↦{fullShare} acc X Wt c (t.val + 1)))) := by
  have hacc : upd t.val (aBlk X c (ord c t)) (wBlk Wt c (ord c t)) f = acc X Wt c (t.val + 1) := by
    show _ = upd t.val (aBlk X c (ord c (Fin.ofNat 16 t.val))) (wBlk Wt c (ord c (Fin.ofNat 16 t.val))) (acc X Wt c t.val)
    rw [show Fin.ofNat 16 t.val = t from Fin.ext (Nat.mod_eq_of_lt t.isLt)]
    rcases hf with h | h
    · unfold upd; rw [if_pos h, if_pos h]
    · rw [h]
  unfold mulN mulOp
  simp only [Prog.lift, Prog.bind_op, Prog.bind_ret]
  iintro ⟨Hg, Hb, Ho⟩
  unfold xgAt wbAt
  iapply (wp_load 𝒱₀ (c : Thread nD τ) none Set.univ (m := Memref.whole cc0_scratch1) (rX_sub (ord c t))) $$ Hg; iintro Hg
  iapply (wp_load 𝒱₀ (c : Thread nD τ) none Set.univ (m := Memref.whole cc0_scratch2) (rW_sub k)) $$ Hb; iintro Hb
  iapply (wp_load 𝒱₀ (c : Thread nD τ) none Set.univ (m := Memref.whole cc0_stg1_0) (Finset.subset_univ _)) $$ Ho; iintro Ho
  rw [read_xg, read_wb, read_out, hacc]
  by_cases ht : t.val ≠ 0
  · rw [if_pos ht]
    iapply (wp_load 𝒱₀ (c : Thread nD τ) none Set.univ (m := Memref.whole cc0_stg1_0) (Finset.subset_univ _)) $$ Ho; iintro Ho
    iapply (wp_store 𝒱₀ (c : Thread nD τ) none Set.univ (m := Memref.whole cc0_stg1_0) (r := rOut) (Mk := Finset.univ) (Finset.subset_univ _)) $$ Ho; iintro Ho
    rw [wp_ret, write_out]; imodintro
    isplitl [Hg]; · iexact Hg
    isplitl [Hb] <;> iassumption
  · rw [if_neg ht]
    iapply (wp_store 𝒱₀ (c : Thread nD τ) none Set.univ (m := Memref.whole cc0_stg1_0) (r := rOut) (Mk := Finset.univ) (Finset.subset_univ _)) $$ Ho; iintro Ho
    rw [wp_ret, write_out]; imodintro
    isplitl [Hg]; · iexact Hg
    isplitl [Hb] <;> iassumption

end Cert.Rowwise
-- ==== Proof.Loops.lean ====
/-
Sequencing and loops: a body's phases put together, a list's runs by one invariant.
-/
module

public import proofs.«01_k».proof.Proof.Ops

@[expose] public section

set_option maxRecDepth 16384

noncomputable section

namespace Cert.Rowwise

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (c : Dev nD)

/-- A program, then another: what the first takes is given up, what it leaves is had by the second. -/
theorem WP_then {P Q : sProp 𝕄} {p : Prog (TpuEff nD τ sig (Elt F) Λ₀ .tc) PUnit} {k : PUnit → Prog (TpuEff nD τ sig (Elt F) Λ₀ .tc) PUnit}
    {Post : PUnit → sProp 𝕄} (hp : P ⊢ WP c p (fun _ => Q)) : P ⊢ iprop((Q -∗ WP c (k ⟨⟩) Post) -∗ WP c (p >>= k) Post) := by
  unfold WP at hp ⊢
  rw [wp_bind]
  iintro HP Hk
  iapply (wp_wand_r _ _ _)
  isplitl [HP]; · iapply hp; iexact HP
  iintro %a HQ
  iapply Hk; iexact HQ

/-- A list run by an invariant counted by its entries. -/
theorem each_loop {n : ℕ} (f : Fin n → Prog (TpuEff nD τ sig (Elt F) Λ₀ .tc) PUnit) (I : ℕ → sProp 𝕄)
    (h : ∀ t : Fin n, I t.val ⊢ WP c (f t) (fun _ => I (t.val + 1))) : I 0 ⊢ WP c (each f (List.finRange n)) (fun _ => I n) := by
  have key : ∀ m k, k + m = n → I k ⊢ WP c (each f ((List.finRange n).drop k)) (fun _ => I n) := by
    intro m
    induction m with
    | zero =>
      intro k hk
      rw [List.drop_eq_nil_of_le (by rw [List.length_finRange]; omega), show k = n by omega]
      show I n ⊢ WP c (Prog.ret ⟨⟩) _
      unfold WP
      rw [wp_ret]
      iintro H; imodintro; iexact H
    | succ m ih =>
      intro k hk
      have hlt : k < (List.finRange n).length := by rw [List.length_finRange]; omega
      rw [List.drop_eq_getElem_cons hlt, List.getElem_finRange]
      show I k ⊢ WP c (f ⟨k, _⟩ >>= fun _ => each f ((List.finRange n).drop (k + 1))) _
      unfold WP
      rw [wp_bind]
      exact (h ⟨k, by omega⟩).trans (wp_mono _ _ _ fun _ => ih (k + 1) (by omega))
  have := key n 0 (by omega)
  rwa [List.drop_zero] at this

/-- A list whose `r`-th entry takes `A r` and leaves `B r`, with `S` carried along. -/
theorem each_sep {n : ℕ} (f : Fin n → Prog (TpuEff nD τ sig (Elt F) Λ₀ .tc) PUnit) (S : ℕ → sProp 𝕄) (A B : Fin n → sProp 𝕄)
    (h : ∀ r : Fin n, iprop(S r.val ∗ A r) ⊢ WP c (f r) (fun _ => iprop(S (r.val + 1) ∗ B r))) :
    iprop(S 0 ∗ bigSep Finset.univ A) ⊢ WP c (each f (List.finRange n)) (fun _ => iprop(S n ∗ bigSep Finset.univ B)) := by
  have hl := each_loop c f (fun t => iprop(S t ∗ bigSep (Ring.rangeSet n t n) A ∗ bigSep (Ring.rangeSet n 0 t) B)) (fun r => by
    rw [Ring.bigSep_rangeSet_head r.isLt r.isLt]
    have e : bigSep (Ring.rangeSet n 0 (r.val + 1)) B = iprop(B r ∗ bigSep (Ring.rangeSet n 0 r.val) B) :=
      Ring.bigSep_rangeSet_last (Nat.succ_pos _) r.isLt
    rw [e]
    iintro ⟨HS, ⟨HA, HAs⟩, HBs⟩
    iapply (wp_wand_r _ _ _)
    isplitl [HS HA]
    · iapply (h r); isplitl [HS] <;> iassumption
    iintro %_ ⟨HS, HB⟩
    isplitl [HS]; · iexact HS
    isplitl [HAs]; · iexact HAs
    isplitl [HB] <;> iassumption)
  simp only [Ring.rangeSet_univ, Ring.bigSep_rangeSet_empty le_rfl] at hl
  have h1 : iprop(S 0 ∗ bigSep Finset.univ A) ⊢ iprop(S 0 ∗ bigSep Finset.univ A ∗ emp) := by
    iintro ⟨HS, HA⟩
    isplitl [HS]; · iexact HS
    isplitl [HA]; · iexact HA
    iempintro
  have h2 : iprop(S n ∗ emp ∗ bigSep Finset.univ B) ⊢ iprop(S n ∗ bigSep Finset.univ B) := by
    iintro ⟨HS, -, HB⟩
    isplitl [HS] <;> iassumption
  exact h1.trans (hl.trans (wp_mono _ _ _ fun _ => h2))

/-! ### The devices other than one, numbered -/

theorem up_injective : Function.Injective up := Fin.succ_injective _
theorem nb_injective (c : Dev nD) : Function.Injective (nb c) := fun r s h => by
  have hv := congrArg Fin.val h
  have := r.isLt; have := s.isLt; have := c.isLt
  simp only [nb] at hv
  exact Fin.ext (by have hc : c.val < 16 := c.isLt; omega)
theorem nb_ne (c : Dev nD) (r : Fin 15) : nb c r ≠ c := fun h => by
  have hv := congrArg Fin.val h
  have := r.isLt; have hc : c.val < 16 := c.isLt
  simp only [nb] at hv
  omega

/-- Fifteen devices other than `c` are all of them; -/
theorem erase_eq (σ : Fin 15 → Dev nD) (hi : Function.Injective σ) (hne : ∀ r, σ r ≠ c) :
    Finset.univ.erase c = Finset.univ.map ⟨σ, hi⟩ := by
  symm
  refine Finset.eq_of_subset_of_card_le (fun x hx => ?_) ?_
  · obtain ⟨r, -, rfl⟩ := Finset.mem_map.mp hx
    exact Finset.mem_erase.mpr ⟨hne r, Finset.mem_univ _⟩
  · rw [Finset.card_map, Finset.card_erase_of_mem (Finset.mem_univ _)]; decide

/-- a family over all devices is `c`'s member and the fifteen others'. -/
theorem bigSep_others (σ : Fin 15 → Dev nD) (hi : Function.Injective σ) (hne : ∀ r, σ r ≠ c) (Φ : Dev nD → sProp 𝕄) :
    bigSep Finset.univ Φ = iprop(Φ c ∗ bigSep Finset.univ fun r => Φ (σ r)) := by
  rw [← Finset.insert_erase (Finset.mem_univ c), bigSep_insert (Finset.notMem_erase _ _), erase_eq c σ hi hne, bigSep_map]
  rfl

abbrev at' (c : Dev nD) (r : Fin 15) : Dev nD := ord c (up r)
theorem at_injective (c : Dev nD) : Function.Injective (at' c) := (ord_injective c).comp up_injective
theorem at_ne (c : Dev nD) (r : Fin 15) : at' c r ≠ c := ord_up_ne c r

end Cert.Rowwise
-- ==== Proof.Step.lean ====
/-
The records every device shares, and a step of the main loop: the weights' ring, the block's arrival, the arithmetic.
-/
module

public import proofs.«01_k».proof.Proof.Loops

@[expose] public section

set_option maxRecDepth 16384

noncomputable section

namespace Cert.Rowwise

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → S4096x256.Idx → Elt F .f32) (Wt : Dev nD → S4096x8192.Idx → Elt F .f32)

/-! ### The shared records -/

/-- Every cell's invariant, and that every cell has reached its round. -/
def records (K : Dev nD × Kx → ℕ) : sProp 𝕄 :=
  iprop((bigSep Finset.univ fun ck : Dev nD × Kx => cellInv ER (exRd X) (K ck) (kcell ck))
    ∗ bigSep Finset.univ fun ck : Dev nD × Kx => reached ER (kcell ck) 0)

instance records_persistent (K : Dev nD × Kx → ℕ) : BI.Persistent (records X K) := by unfold records; infer_instance

variable {X}

theorem inv_of (K : Dev nD × Kx → ℕ) (ck : Dev nD × Kx) : records X K ⊢ cellInv ER (exRd X) (K ck) (kcell ck) := by
  have h : (bigSep Finset.univ fun ck : Dev nD × Kx => (cellInv ER (exRd X) (K ck) (kcell ck) : sProp 𝕄)) ⊢ cellInv ER (exRd X) (K ck) (kcell ck) :=
    bigSep_elim (Finset.mem_univ ck)
  unfold records
  iintro ⟨#H, -⟩
  iapply h; iexact H

theorem reached_of (K : Dev nD × Kx → ℕ) (ck : Dev nD × Kx) : records X K ⊢ reached ER (kcell ck) 0 := by
  have h : (bigSep Finset.univ fun ck : Dev nD × Kx => (reached ER (kcell ck) 0 : sProp 𝕄)) ⊢ reached ER (kcell ck) 0 :=
    bigSep_elim (Finset.mem_univ ck)
  unfold records
  iintro ⟨-, #H⟩
  iapply h; iexact H

variable (X)

/-! ### The weights' ring -/

variable (c : Dev nD)

/-- Weight slot `k`'s semaphore at zero; -/
abbrev wCell (k : Fin 3) : sProp 𝕄 := semVal ((c : Thread nD τ), .dma (wS k)) 0
/-- the slot; -/
abbrev wSlot (k : Fin 3) (f : S3x256x8192.Idx → Elt F .f32) : sProp 𝕄 := wbAt c k f
/-- the row block that step `b` uses, at home; -/
abbrev wHome (b : Fin 16) : sProp 𝕄 := wAt c (ord c b) (Wt c)
/-- its copy under way. -/
abbrev wFly (k : Fin 3) (b : Fin 16) (_ : S3x256x8192.Idx → Elt F .f32) : sProp 𝕄 := flightW Wt c (ord c b) k

/-- The ring before step `p`. -/
def ringAt (p : ℕ) : sProp 𝕄 := Ring.At (NB := 16) 2 (wCell c) (fun k f => wSlot c k f) (wHome Wt c) (fun k b f => wFly Wt c k b f) p

theorem bk_eq (t : Fin 16) : Ring.bk 16 t.val = t := Fin.ext (Nat.mod_eq_of_lt t.isLt)
theorem bk_mk (t : ℕ) (h : t < 16) : Ring.bk 16 t = ⟨t, h⟩ := Fin.ext (Nat.mod_eq_of_lt h)

/-- What a step gives the ring back: its row block, and its slot free. -/
def spent (t : Fin 16) : sProp 𝕄 :=
  iprop(wAt c (ord c t) (Wt c) ∗ semVal ((c : Thread nD τ), .dma (wS (slot3 t.val))) 0 ∗ ∃ f, wbAt c (slot3 t.val) f)

/-- A step's look ahead leaves its own block's copy in hand, and the next step's ring up to what the step gives back. -/
theorem wp_aheadN (t : Fin 16) :
    ringAt Wt c t.val ⊢ WP c (aheadN c t) (fun _ => iprop(flightW Wt c (ord c t) (slot3 t.val) ∗ (spent Wt c t -∗ ringAt Wt c (t.val + 1)))) := by
  unfold aheadN ringAt spent
  by_cases h : t.val + 2 < 16
  · rw [dif_pos h, Ring.At3_here _ _ _ _ t.val h, Ring.At3_next _ _ _ _ t.val h, Ring.slotAt3_next0 _ _ _ t.val (by omega),
      Ring.slotAt3_next1 _ _ _ t.val h, bk_eq t, bk_mk _ h]
    iintro ⟨⟨Hh, Hhs⟩, ⟨%f0, Hf0⟩, Hf1, ⟨Hv, Hs⟩⟩
    iapply (wp_wand_r _ _ _)
    isplitl [Hh Hv Hs]
    · iapply (wp_fetchN Wt c (ord c ⟨t.val + 2, h⟩) (slot3 (t.val + 2)))
      isplitl [Hh]; · iexact Hh
      isplitl [Hs]; · iexact Hs
      iexact Hv
    iintro %_ Hf2
    isplitl [Hf0]; · iexact Hf0
    iintro ⟨Hw, Hv, Hs⟩
    isplitl [Hw Hhs]
    · isplitl [Hw]; · iexact Hw
      iexact Hhs
    isplitl [Hf1]; · iexact Hf1
    isplitl [Hf2]; · iexists f0; iexact Hf2
    isplitl [Hv]; · iexact Hv
    iexact Hs
  · rw [dif_neg h, Ring.At3_here_tail _ _ _ _ t.val t.isLt, Ring.At3_next_tail _ _ _ _ t.val (by omega) t.isLt, Ring.slotAt3_tail_role, bk_eq t]
    show _ ⊢ WP c (Prog.ret ⟨⟩) _
    unfold WP
    rw [wp_ret]
    iintro ⟨Hhs, ⟨%f0, Hf0⟩, Hf1, Hfr⟩
    imodintro
    isplitl [Hf0]; · iexact Hf0
    iintro ⟨Hw, Hv, Hs⟩
    isplitl [Hw Hhs]
    · isplitl [Hw]; · iexact Hw
      iexact Hhs
    isplitl [Hf1]; · iexact Hf1
    isplitl [Hfr]; · iexact Hfr
    isplitl [Hv]; · iexact Hv
    iexact Hs

/-- All of the ring once the first two copies are started; -/
theorem ring_start (f₀ : S3x256x8192.Idx → Elt F .f32) :
    iprop(flightW Wt c (ord c 0) 0 ∗ flightW Wt c (ord c 1) 1 ∗ Ring.free (wCell c) (fun k f => wSlot c k f) 2
        ∗ wHome Wt c (Ring.bk 16 2) ∗ bigSep ((Ring.homeSet 2 0).erase (Ring.bk 16 2)) (wHome Wt c)) ⊢ ringAt Wt c 0 := by
  unfold ringAt
  rw [Ring.At3_here _ _ _ _ 0 (by decide)]
  iintro ⟨H0, H1, H2, Hh, Hhs⟩
  isplitl [Hh Hhs]
  · isplitl [Hh] <;> iassumption
  isplitl [H0]; · iexists f₀; iexact H0
  isplitl [H1]; · iexists f₀; iexact H1
  iexact H2

/-- and what the last step leaves of it. -/
theorem ring_end : ringAt Wt c 16 ⊢ iprop((bigSep Finset.univ (wHome Wt c)) ∗ Ring.free (wCell c) (fun k f => wSlot c k f) 0
    ∗ Ring.free (wCell c) (fun k f => wSlot c k f) 1 ∗ Ring.free (wCell c) (fun k f => wSlot c k f) 2) := Ring.free3_of_At_last _ _ _ _

/-! ### The blocks' arrivals -/

/-- Before step `t` its block is due: the device's own is there, another's has its credit and position waiting; -/
def due (t : Fin 16) : sProp 𝕄 :=
  if 0 < t.val then iprop(cred (tallyAt (recvCell c (ord c t)) () NX) ∗ atPos ER (recvCell c (ord c t)) 0 ∅ 0) else xgAt c (ord c t) (GX X c)
/-- after it, it is had. -/
def got (t : Fin 16) : sProp 𝕄 := iprop(xgAt c (ord c t) (GX X c) ∗ if 0 < t.val then semVal (recvCell c (ord c t)) 0 else emp)

theorem ord_ne (t : Fin 16) (h : 0 < t.val) : ord c t ≠ c := fun he => by
  have h0 : t = 0 := ord_injective c (he.trans (ord_zero c).symm)
  rw [h0] at h
  exact Nat.lt_irrefl 0 h

theorem wp_arriveN (K : Dev nD × Kx → ℕ) (t : Fin 16) :
    iprop(records X K ∗ due X c t ∗ owesS c 0) ⊢ WP c (arriveN c t) (fun _ => iprop(got X c t ∗ owesS c 0)) := by
  unfold arriveN due got
  by_cases h : 0 < t.val
  · rw [if_pos h, if_pos h, if_pos h]
    iintro ⟨#HR, ⟨Hc, Hat⟩, HO⟩
    iapply (wp_wand_r _ _ _)
    isplitl [Hc Hat HO]
    · iapply (wp_landedN X c (ord c t) (ord_ne c t h) (κ := K (c, .inr (.inr (ord c t)))))
      isplitr; · iapply (inv_of K (c, .inr (.inr (ord c t)))); iexact HR
      isplitl [Hc]; · iexact Hc
      isplitl [HO]; · iexact HO
      iexact Hat
    iintro %_ ⟨Hg, Hv, HO⟩
    isplitl [Hg Hv]
    · isplitl [Hg] <;> iassumption
    iexact HO
  · rw [if_neg h, if_neg h, if_neg h]
    show _ ⊢ WP c (Prog.ret ⟨⟩) _
    unfold WP
    rw [wp_ret]
    iintro ⟨-, Hg, HO⟩
    imodintro
    isplitl [Hg]
    · isplitl [Hg]; · iexact Hg
      iempintro
    iexact HO

/-! ### A step -/

/-- The output window before step `t`: what `t` steps have accumulated, or anything before the first. -/
def outAt (t : ℕ) : sProp 𝕄 :=
  iprop(∃ f : S256x8192.Idx → Elt F .f32, ⌜t = 0 ∨ f = acc X Wt c t⌝ ∗ (((c : Thread nD τ).loc cc0_stg1_0) ↦{fullShare} f))

/-- What the main loop carries. -/
def loopS (K : Dev nD × Kx → ℕ) (t : ℕ) : sProp 𝕄 := iprop(records X K ∗ ringAt Wt c t ∗ outAt X Wt c t ∗ owesS c 0)

/-- A step of the main loop. -/
theorem wp_stepN (K : Dev nD × Kx → ℕ) (t : Fin 16) :
    iprop(loopS X Wt c K t.val ∗ due X c t) ⊢ WP c (stepN c t) (fun _ => iprop(loopS X Wt c K (t.val + 1) ∗ got X c t)) := by
  unfold stepN loopS outAt
  iintro ⟨⟨#HR, Hring, ⟨%f, %hf, Ho⟩, HO⟩, Hdue⟩
  iapply (WP_then c (wp_aheadN Wt c t)) $$ Hring
  iintro ⟨Hf, Hring⟩
  iapply (WP_then c (wp_fetchedN Wt c (ord c t) (slot3 t.val))) $$ [Hf HO]
  · isplitl [Hf] <;> iassumption
  iintro ⟨Hb, Hw, Hv, HO⟩
  iapply (WP_then c (wp_arriveN X c K t)) $$ [Hdue HO]
  · isplitr; · iexact HR
    isplitl [Hdue] <;> iassumption
  iintro ⟨Hgot, HO⟩
  unfold got
  icases Hgot with ⟨Hg, Hz⟩
  iapply (wp_wand_r _ _ _)
  isplitl [Hg Hb Ho]
  · iapply (wp_mulN X Wt c t (slot3 t.val) f hf)
    isplitl [Hg]; · iexact Hg
    isplitl [Hb] <;> iassumption
  iintro %_ ⟨Hg, Hb, Ho⟩
  isplitl [Hring Hw Hv Hb Ho HO]
  · isplitr; · iexact HR
    isplitl [Hring Hw Hv Hb]
    · iapply Hring
      unfold spent
      isplitl [Hw]; · iexact Hw
      isplitl [Hv]; · iexact Hv
      iexists _; iexact Hb
    isplitl [Ho]
    · iexists _
      isplitr; · ipureintro; exact Or.inr rfl
      iexact Ho
    iexact HO
  isplitl [Hg] <;> iassumption

/-- The main loop. -/
theorem wp_loop (K : Dev nD × Kx → ℕ) :
    iprop(loopS X Wt c K 0 ∗ bigSep Finset.univ (due X c)) ⊢ WP c (each (stepN c) all16) (fun _ => iprop(loopS X Wt c K 16 ∗ bigSep Finset.univ (got X c))) :=
  each_sep (n := 16) c (stepN c) (loopS X Wt c K) (due X c) (got X c) (wp_stepN X Wt c K)

end Cert.Rowwise
-- ==== Proof.Phases.lean ====
/-
The body's phases on one device, and the body from what it is given to what it leaves.
-/
module

public import proofs.«01_k».proof.Proof.Step

@[expose] public section

set_option maxRecDepth 16384

noncomputable section

namespace Cert.Rowwise

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → S4096x256.Idx → Elt F .f32) (Wt : Dev nD → S4096x8192.Idx → Elt F .f32) (K : Dev nD × Kx → ℕ) (c : Dev nD)

/-! ### The signals -/

/-- What the `r`-th signal takes: its duty, and the slot that it hands over. -/
def sigA (r : Fin 15) : sProp 𝕄 := iprop(dutyTok ER (barCell (nb c r)) 0 c ∗ ∃ f, xgAt c (nb c r) f)

theorem wp_signals₀ : iprop((records X K ∗ owesS c (OB c 0)) ∗ bigSep Finset.univ (sigA (F := F) c))
    ⊢ WP c (each (fun r => semSignalWord (nb c r) barrier0 1#32) all15) (fun _ => iprop((records X K ∗ owesS c (OB c 15)) ∗ bigSep Finset.univ fun _ : Fin 15 => iprop(emp))) :=
  each_sep (n := 15) c (fun r => semSignalWord (nb c r) barrier0 1#32) (fun n => iprop(records X K ∗ owesS c (OB c n))) (sigA c) (fun _ => iprop(emp)) fun r => by
    unfold sigA
    rw [OB_step c r]
    iintro ⟨⟨#HR, HO⟩, Ht, Hg⟩
    iapply (wp_wand_r _ _ _)
    isplitl [HO Ht Hg]
    · iapply (wp_signalN X c (nb c r) (nb_ne c r) (OB c (r.val + 1)) (κ := K (nb c r, .inl ())))
      isplitr; · iapply (inv_of K (nb c r, .inl ())); iexact HR
      isplitl [HO]; · iexact HO
      isplitl [Ht]; · iexact Ht
      isplitl [Hg]; · iexact Hg
      isplitr; · iapply (reached_of K (c, .inr (.inr (nb c r)))); iexact HR
      iapply (reached_of K (nb c r, .inl ())); iexact HR
    iintro %_ HO
    isplitl [HO]
    · isplitr; · iexact HR
      iexact HO
    iempintro

/-- The signals give every other device its slot, and leave the own one. -/
theorem wp_signals : iprop(records X K ∗ owesS c (OB c 0) ∗ (bigSep Finset.univ fun p : Dev nD => dutyTok ER (barCell p) 0 c)
      ∗ ∃ f, ((c : Thread nD τ).loc cc0_scratch1) ↦{fullShare} f)
    ⊢ WP c (each (fun r => semSignalWord (nb c r) barrier0 1#32) all15) (fun _ => iprop(owesS c (OR c 0) ∗ ∃ f, xgAt c c f)) := by
  have hg (f : S16x256x256.Idx → Elt F .bf16) : (((c : Thread nD τ).loc cc0_scratch1) ↦{fullShare} f : sProp 𝕄)
      ⊢ iprop(xgAt c c f ∗ bigSep Finset.univ fun r => iprop(∃ f, xgAt c (nb c r) f)) := by
    rw [xg_blocks, bigSep_others c (nb c) (nb_injective c) (nb_ne c)]
    exact sep_mono_right (bigSep_mono fun r _ => by
      show xgAt c (nb c r) f ⊢ iprop(∃ f, xgAt c (nb c r) f)
      iintro H; iexists f; iexact H)
  rw [bigSep_others c (nb c) (nb_injective c) (nb_ne c) (fun p : Dev nD => (dutyTok ER (barCell p) 0 c : sProp 𝕄))]
  iintro ⟨#HR, HO, ⟨-, Ht⟩, ⟨%f, Hg⟩⟩
  ihave Hg' := (hg f) $$ Hg
  icases Hg' with ⟨Hown, Hg⟩
  iapply (wp_wand_r _ _ _)
  isplitl [HO Ht Hg]
  · iapply (wp_signals₀ X K c)
    isplitl [HO]
    · isplitr; · iexact HR
      iexact HO
    have e : bigSep Finset.univ (sigA (F := F) c) = _ := bigSep_sep' Finset.univ (fun r => (dutyTok ER (barCell (nb c r)) 0 c : sProp 𝕄)) (fun r => iprop(∃ f, xgAt c (nb c r) f))
    rw [e]
    isplitl [Ht] <;> iassumption
  iintro %_ ⟨⟨-, HO⟩, -⟩
  rw [OB_last]
  isplitl [HO]; · iexact HO
  iexists f; iexact Hown

/-! ### The sends -/

/-- What the `r`-th send takes: its row block, the slot it lands in, its two duties. -/
def sendA (r : Fin 15) : sProp 𝕄 :=
  iprop(xbAt c (at' c r) (XB X c) ∗ (∃ f, xgAt (at' c r) c f) ∗ dutyTok ER (sendCell c (at' c r)) 0 0 ∗ dutyTok ER (recvCell (at' c r) c) 0 0)
/-- What it leaves: the credit to wait for the row block. -/
def sendB (r : Fin 15) : sProp 𝕄 := cred (tallyAt (sendCell c (at' c r)) () NX)

theorem wp_sends₀ : iprop((records X K ∗ owesS c (OR c 0)) ∗ bigSep Finset.univ (sendA X c))
    ⊢ WP c (each (fun r => sendN c (ord c (up r))) all15) (fun _ => iprop((records X K ∗ owesS c (OR c 15)) ∗ bigSep Finset.univ (sendB (F := F) c))) :=
  each_sep (n := 15) c (fun r => sendN c (ord c (up r))) (fun n => iprop(records X K ∗ owesS c (OR c n))) (sendA X c) (sendB c) fun r => by
    unfold sendA sendB
    rw [OR_step c r]
    iintro ⟨⟨#HR, HO⟩, Hb, Hg, HtS, HtR⟩
    iapply (wp_wand_r _ _ _)
    isplitl [HO Hb Hg HtS HtR]
    · iapply (wp_sendN X c (at' c r) (at_ne c r) (OR c (r.val + 1)) (κ₁ := K (c, .inr (.inl (at' c r)))) (κ₂ := K (at' c r, .inr (.inr c))))
      isplitr; · iapply (inv_of K (c, .inr (.inl (at' c r)))); iexact HR
      isplitr; · iapply (inv_of K (at' c r, .inr (.inr c))); iexact HR
      isplitl [Hb]; · iexact Hb
      isplitl [Hg]; · iexact Hg
      isplitl [HO]; · iexact HO
      isplitl [HtS]; · iexact HtS
      isplitr; · iapply (reached_of K (c, .inr (.inl (at' c r)))); iexact HR
      isplitl [HtR]; · iexact HtR
      iapply (reached_of K (at' c r, .inr (.inr c))); iexact HR
    iintro %_ ⟨Hc, HO⟩
    isplitl [HO]
    · isplitr; · iexact HR
      iexact HO
    iexact Hc

/-- The sends take every other device's row block and slot; the own row block stays. -/
theorem wp_sends : iprop(records X K ∗ owesS c (OR c 0) ∗ (((c : Thread nD τ).loc cc0_scratch0) ↦{fullShare} XB X c)
      ∗ (bigSep (Finset.univ.erase c) fun p => barPay c p)
      ∗ (bigSep Finset.univ fun s : Fin 16 => dutyTok ER (sendCell c s) 0 0) ∗ (bigSep Finset.univ fun e : Dev nD => dutyTok ER (recvCell e c) 0 0))
    ⊢ WP c (each (fun r => sendN c (ord c (up r))) all15) (fun _ => iprop(owesS c 0 ∗ xbAt c c (XB X c) ∗ bigSep Finset.univ (sendB (F := F) c))) := by
  have hp : (bigSep (Finset.univ.erase c) fun p => barPay c p : sProp 𝕄) ⊢ bigSep Finset.univ fun r => iprop(∃ f, xgAt (at' c r) c f) := by
    rw [erase_eq c (at' c) (at_injective c) (at_ne c), bigSep_map]
    exact bigSep_mono fun r _ => by
      show barPay c (at' c r) ⊢ _
      unfold barPay; iintro ⟨H, -⟩; iexact H
  rw [xb_blocks, bigSep_others c (at' c) (at_injective c) (at_ne c) (fun e => xbAt c e (XB X c)),
    bigSep_others c (at' c) (at_injective c) (at_ne c) (fun s => (dutyTok ER (sendCell c s) 0 0 : sProp 𝕄)),
    bigSep_others c (at' c) (at_injective c) (at_ne c) (fun e : Dev nD => (dutyTok ER (recvCell e c) 0 0 : sProp 𝕄))]
  iintro ⟨#HR, HO, ⟨Hown, Hb⟩, Hp, ⟨-, HtS⟩, -, HtR⟩
  ihave Hg := hp $$ Hp
  iapply (wp_wand_r _ _ _)
  isplitl [HO Hb Hg HtS HtR]
  · iapply (wp_sends₀ X K c)
    isplitl [HO]
    · isplitr; · iexact HR
      iexact HO
    unfold sendA
    simp only [bigSep_sep']
    isplitl [Hb]; · iexact Hb
    isplitl [Hg]; · iexact Hg
    isplitl [HtS] <;> iassumption
  iintro %_ ⟨⟨-, HO⟩, Hc⟩
  rw [OR_last]
  isplitl [HO]; · iexact HO
  isplitl [Hown] <;> iassumption

/-- What the wait for the `r`-th send takes and leaves. -/
def sentA (r : Fin 15) : sProp 𝕄 := iprop(sendB c r ∗ atPos ER (sendCell c (at' c r)) 0 ∅ 0)
def sentB (r : Fin 15) : sProp 𝕄 := iprop(xbAt c (at' c r) (XB X c) ∗ semVal (sendCell c (at' c r)) 0)

/-- The waits for the sends give the row blocks back, and the semaphores at zero. -/
theorem wp_sents : iprop((records X K ∗ owesS c 0) ∗ bigSep Finset.univ (sentA (F := F) c))
    ⊢ WP c (each (fun r => sentN c (ord c (up r))) all15) (fun _ => iprop((records X K ∗ owesS c 0) ∗ bigSep Finset.univ (sentB X c))) :=
  each_sep (n := 15) c (fun r => sentN c (ord c (up r))) (fun _ => iprop(records X K ∗ owesS c 0)) (sentA c) (sentB X c) fun r => by
    unfold sentA sentB sendB
    iintro ⟨⟨#HR, HO⟩, Hc, Hat⟩
    iapply (wp_wand_r _ _ _)
    isplitl [HO Hc Hat]
    · iapply (wp_sentN X c (at' c r) (at_ne c r) (κ := K (c, .inr (.inl (at' c r)))))
      isplitr; · iapply (inv_of K (c, .inr (.inl (at' c r)))); iexact HR
      isplitl [Hc]; · iexact Hc
      isplitl [HO]; · iexact HO
      iexact Hat
    iintro %_ ⟨Hb, Hv, HO⟩
    isplitl [HO]
    · isplitr; · iexact HR
      iexact HO
    isplitl [Hb] <;> iassumption

/-! ### The body -/

/-- The buffers and semaphores that the body has of its own, at anything and at zero. -/
def bufs : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

/-- What the launch gives device `c`: its positions, the duties that it pays, the credits that it spends. -/
def deal : sProp 𝕄 :=
  iprop((atPos ER (barCell c) 0 ∅ 0 ∗ (bigSep Finset.univ fun s : Fin 16 => atPos ER (sendCell c s) 0 ∅ 0) ∗ bigSep Finset.univ fun s : Fin 16 => atPos ER (recvCell c s) 0 ∅ 0)
    ∗ ((bigSep Finset.univ fun p : Dev nD => dutyTok ER (barCell p) 0 c) ∗ (bigSep Finset.univ fun s : Fin 16 => dutyTok ER (sendCell c s) 0 0)
      ∗ bigSep Finset.univ fun e : Dev nD => dutyTok ER (recvCell e c) 0 0))

def creds : sProp 𝕄 := iprop(cred (tallyAt (barCell c) () 15) ∗ bigSep Finset.univ fun r : Fin 15 => cred (tallyAt (recvCell c (at' c r)) () NX))

/-- The exchange's semaphores and the weights', at zero. -/
def zeros : sProp 𝕄 :=
  iprop(semVal (barCell c) 0 ∗ (bigSep Finset.univ fun s : Fin 16 => semVal (sendCell c s) 0) ∗ (bigSep Finset.univ fun s : Fin 16 => semVal (recvCell c s) 0)
    ∗ bigSep Finset.univ fun k : Fin 3 => wCell c k)

def bodyIn : sProp 𝕄 :=
  iprop(records X K ∗ levAts L lv ∗ deal c ∗ creds c ∗ (bigSep Finset.univ fun k : Fin 3 => wCell c k) ∗ bufs c
    ∗ (((c : Thread nD τ).loc main_arg1) ↦{fullShare} Wt c) ∗ (((c : Thread nD τ).loc cc0_stg0_0) ↦{fullShare} X c)
    ∗ (∃ f : S256x8192.Idx → Elt F .f32, ((c : Thread nD τ).loc cc0_stg1_0) ↦{fullShare} f) ∗ owesS c (OB c 0))

def bodyOut : sProp 𝕄 :=
  iprop(zeros c ∗ bufs c ∗ (((c : Thread nD τ).loc main_arg1) ↦{fullShare} Wt c) ∗ (((c : Thread nD τ).loc cc0_stg0_0) ↦{fullShare} X c)
    ∗ (((c : Thread nD τ).loc cc0_stg1_0) ↦{fullShare} outV X Wt c) ∗ owesS c 0)

theorem up_ne (r : Fin 15) : up r ≠ 0 := Fin.succ_ne_zero r

/-- The blocks due to the main loop: the own one, and the others' credits and positions. -/
theorem due_all : bigSep Finset.univ (due X c) = iprop(xgAt c c (GX X c)
    ∗ (bigSep Finset.univ fun r : Fin 15 => cred (tallyAt (recvCell c (at' c r)) () NX)) ∗ bigSep Finset.univ fun r : Fin 15 => atPos ER (recvCell c (at' c r)) 0 ∅ 0) := by
  rw [bigSep_others (0 : Fin 16) up up_injective up_ne, ← bigSep_sep']
  congr 1
  · unfold due; rw [if_neg (by decide), ord_zero]

/-- The blocks had after it: the whole buffer, and the semaphores at zero. -/
theorem got_all : bigSep Finset.univ (got X c) ⊢ iprop((((c : Thread nD τ).loc cc0_scratch1) ↦{fullShare} GX X c)
    ∗ bigSep Finset.univ fun r : Fin 15 => semVal (recvCell c (at' c r)) 0) := by
  rw [bigSep_others (0 : Fin 16) up up_injective up_ne, xg_blocks, bigSep_others c (at' c) (at_injective c) (at_ne c) (fun s => xgAt c s (GX X c))]
  have e : (fun r => got X c (up r)) = fun r : Fin 15 => iprop(xgAt c (at' c r) (GX X c) ∗ semVal (recvCell c (at' c r)) 0) := rfl
  rw [e, bigSep_sep']
  unfold got
  rw [ord_zero]
  iintro ⟨⟨H0, -⟩, Hg, Hv⟩
  isplitr [Hv]
  · isplitl [H0] <;> iassumption
  iexact Hv

/-- The first two copies of the weights. -/
theorem wp_first {Q : PUnit → sProp 𝕄} {p : Prog (TpuEff nD τ sig (Elt F) Λ₀ .tc) PUnit} :
    iprop((((c : Thread nD τ).loc main_arg1) ↦{fullShare} Wt c) ∗ (bigSep Finset.univ fun k : Fin 3 => wCell c k) ∗ (∃ f, ((c : Thread nD τ).loc cc0_scratch2) ↦{fullShare} f)
        ∗ (ringAt Wt c 0 -∗ WP c p Q))
      ⊢ WP c (do fetchN (ord c 0) 0; fetchN (ord c 1) 1; p) Q := by
  have h0 : (((c : Thread nD τ).loc main_arg1) ↦{fullShare} Wt c : sProp 𝕄) = bigSep Finset.univ (wHome Wt c) := by
    rw [w_blocks, bigSep_univ_equiv (ordE c)]; rfl
  rw [h0]
  have h1 (f : S3x256x8192.Idx → Elt F .f32) : iprop((bigSep Finset.univ (wHome Wt c)) ∗ (bigSep Finset.univ fun k : Fin 3 => wCell c k) ∗ (((c : Thread nD τ).loc cc0_scratch2) ↦{fullShare} f))
      ⊢ Ring.At₀ (NB := 16) (wCell c) (fun k f => wSlot c k f) (wHome Wt c) := by
    rw [wb_blocks]
    unfold Ring.At₀
    have e : (bigSep Finset.univ (Ring.free (wCell (F := F) c) fun k f => wSlot c k f) : sProp 𝕄)
        = iprop((bigSep Finset.univ fun k : Fin 3 => wCell c k) ∗ bigSep Finset.univ fun k : Fin 3 => iprop(∃ f, wSlot c k f)) := bigSep_sep' _ _ _
    rw [e]
    have hm : (bigSep Finset.univ fun k => wbAt c k f : sProp 𝕄) ⊢ bigSep Finset.univ fun k : Fin 3 => iprop(∃ f, wSlot c k f) :=
      bigSep_mono fun k _ => by
        show wbAt c k f ⊢ iprop(∃ f, wbAt c k f)
        iintro H; iexists f; iexact H
    iintro ⟨Hh, Hv, Hs⟩
    isplitl [Hh]; · iexact Hh
    isplitl [Hv]; · iexact Hv
    iapply hm; iexact Hs
  iintro ⟨Hw, Hv, ⟨%f, Hs⟩, Hk⟩
  ihave HR := (h1 f) $$ [Hw Hv Hs]
  · isplitl [Hw]; · iexact Hw
    isplitl [Hv] <;> iassumption
  ihave HR := (Entails.of_eq (Ring.At₀_eq3 _ _ _ (by decide))) $$ HR
  icases HR with ⟨⟨Hh0, Hh1, Hh2, Hhs⟩, ⟨Hv0, Hs0⟩, ⟨Hv1, Hs1⟩, Hf2⟩
  iapply (WP_then c (wp_fetchN Wt c (ord c 0) 0)) $$ [Hh0 Hs0 Hv0]
  · isplitl [Hh0]; · iexact Hh0
    isplitl [Hs0]; · iexact Hs0
    iexact Hv0
  iintro Hf0
  iapply (WP_then c (wp_fetchN Wt c (ord c 1) 1)) $$ [Hh1 Hs1 Hv1]
  · isplitl [Hh1]; · iexact Hh1
    isplitl [Hs1]; · iexact Hs1
    iexact Hv1
  iintro Hf1
  iapply Hk
  iapply (ring_start Wt c f)
  isplitl [Hf0]; · iexact Hf0
  isplitl [Hf1]; · iexact Hf1
  isplitl [Hf2]; · iexact Hf2
  isplitl [Hh2] <;> iassumption

/-- What the ring leaves at the end: the weights, their semaphores at zero, their buffer. -/
theorem ring_leaves : ringAt Wt c 16 ⊢ iprop((((c : Thread nD τ).loc main_arg1) ↦{fullShare} Wt c) ∗ (bigSep Finset.univ fun k : Fin 3 => wCell c k)
    ∗ ∃ f, ((c : Thread nD τ).loc cc0_scratch2) ↦{fullShare} f) := by
  have h0 : (((c : Thread nD τ).loc main_arg1) ↦{fullShare} Wt c : sProp 𝕄) = bigSep Finset.univ (wHome Wt c) := by
    rw [w_blocks, bigSep_univ_equiv (ordE c)]; rfl
  rw [h0, Ring.bigSep_fin3]
  have hj := wb_join (F := F) c (LW Wt c 0)
  rw [Ring.bigSep_fin3] at hj
  refine (ring_end Wt c).trans ?_
  iintro ⟨Hh, ⟨Hv0, Hs0⟩, ⟨Hv1, Hs1⟩, Hv2, Hs2⟩
  isplitl [Hh]; · iexact Hh
  isplitl [Hv0 Hv1 Hv2]
  · isplitl [Hv0]; · iexact Hv0
    isplitl [Hv1] <;> iassumption
  iapply hj
  isplitl [Hs0]; · iexact Hs0
  isplitl [Hs1] <;> iassumption

/-- The body on device `c`. -/
theorem wp_body : bodyIn X Wt K c ⊢ WP c body (fun _ => bodyOut X Wt c) := by
  have hS := bigSep_others c (at' c) (at_injective c) (at_ne c) (fun s : Fin 16 => (atPos ER (sendCell c s) 0 ∅ 0 : sProp 𝕄))
  have hV := bigSep_others c (at' c) (at_injective c) (at_ne c) (fun s : Fin 16 => (atPos ER (recvCell c s) 0 ∅ 0 : sProp 𝕄))
  unfold body
  simp only [Prog.lift, Prog.bind_op, Prog.bind_ret]
  unfold WP
  rw [wp_deviceId]
  unfold bodyIn deal creds bufs
  rw [hS, hV]
  iintro ⟨#HR, #Hlev, ⟨⟨HaB, ⟨HaS0, HaS⟩, HaV0, HaV⟩, HtB, HtS, HtV⟩, ⟨HcB, HcV⟩, Hwv, ⟨⟨%f0, Hxb⟩, Hxg, Hwb⟩, Hw, Hx, ⟨%fo, Hout⟩, HO⟩
  imod (Rounds.cell_close ER (exRd X) (Set.mem_univ (K (c, .inr (.inl c)))) (fun h => h) (R := 0) (duties_send_own X c)) $$ [HaS0] with HzS0
  · isplitr; · iapply (inv_of K (c, .inr (.inl c))); iexact HR
    iexact HaS0
  imod (Rounds.cell_close ER (exRd X) (Set.mem_univ (K (c, .inr (.inr c)))) (fun h => h) (R := 0) (duties_recv_own X c)) $$ [HaV0] with HzV0
  · isplitr; · iapply (inv_of K (c, .inr (.inr c))); iexact HR
    iexact HaV0
  iapply (WP_then c (wp_signals X K c)) $$ [HO HtB Hxg]
  · isplitr; · iexact HR
    isplitl [HO]; · iexact HO
    isplitl [HtB] <;> iassumption
  iintro ⟨HO, Hown⟩
  iapply (WP_then c (wp_barrierN X c (κ := K (c, .inl ())))) $$ [HcB HO HaB]
  · isplitr; · iapply (inv_of K (c, .inl ())); iexact HR
    isplitl [HcB]; · iexact HcB
    isplitl [HO]; · iexact HO
    isplitr; · iexact Hlev
    iexact HaB
  iintro ⟨Hp, HzB, HO⟩
  iapply (WP_then c (wp_castOp X c f0)) $$ [Hx Hxb]
  · isplitl [Hx] <;> iassumption
  iintro ⟨Hx, Hxb⟩
  iapply (WP_then c (wp_sends X K c)) $$ [HO Hxb Hp HtS HtV]
  · isplitr; · iexact HR
    isplitl [HO]; · iexact HO
    isplitl [Hxb]; · iexact Hxb
    isplitl [Hp]; · iexact Hp
    isplitl [HtS] <;> iassumption
  iintro ⟨HO, Hb0, HcS⟩
  iapply (WP_then c (wp_keepN X c)) $$ [Hb0 Hown]
  · isplitl [Hb0] <;> iassumption
  iintro ⟨Hb0, Hown⟩
  iapply (wp_first Wt c)
  isplitl [Hw]; · iexact Hw
  isplitl [Hwv]; · iexact Hwv
  isplitl [Hwb]; · iexact Hwb
  iintro Hring
  iapply (WP_then c (wp_loop X Wt c K)) $$ [Hring Hout HO Hown HcV HaV]
  · isplitl [Hring Hout HO]
    · unfold loopS outAt
      isplitr; · iexact HR
      isplitl [Hring]; · iexact Hring
      isplitl [Hout]
      · iexists fo
        isplitr; · ipureintro; exact Or.inl rfl
        iexact Hout
      iexact HO
    rw [due_all]
    isplitl [Hown]; · iexact Hown
    isplitl [HcV] <;> iassumption
  unfold loopS outAt
  iintro ⟨⟨-, Hring, ⟨%f, %hf, Hout⟩, HO⟩, Hgot⟩
  obtain rfl : f = acc X Wt c 16 := hf.resolve_left (by decide)
  ihave Hl := (ring_leaves Wt c) $$ Hring
  icases Hl with ⟨Hw, Hwv, Hwb⟩
  ihave Hl := (got_all X c) $$ Hgot
  icases Hl with ⟨Hxg, HzV⟩
  iapply (wp_wand_r _ _ _)
  isplitl [HO HcS HaS]
  · iapply (wp_sents X K c)
    isplitl [HO]
    · isplitr; · iexact HR
      iexact HO
    have e : bigSep Finset.univ (sentA (F := F) c) = _ := bigSep_sep' Finset.univ (sendB c) (fun r : Fin 15 => (atPos ER (sendCell c (at' c r)) 0 ∅ 0 : sProp 𝕄))
    rw [e]
    isplitl [HcS] <;> iassumption
  iintro %_ ⟨⟨-, HO⟩, Hs⟩
  have e : bigSep Finset.univ (sentB X c) = _ := bigSep_sep' Finset.univ (fun r : Fin 15 => xbAt c (at' c r) (XB X c)) (fun r : Fin 15 => (semVal (sendCell c (at' c r)) 0 : sProp 𝕄))
  ihave Hs := (Entails.of_eq e) $$ Hs
  icases Hs with ⟨Hb, HzS⟩
  unfold bodyOut zeros bufs outV
  rw [bigSep_others c (at' c) (at_injective c) (at_ne c) (fun s : Fin 16 => (semVal (sendCell c s) 0 : sProp 𝕄)),
    bigSep_others c (at' c) (at_injective c) (at_ne c) (fun s : Fin 16 => (semVal (recvCell c s) 0 : sProp 𝕄))]
  isplitl [HzB HzS0 HzS HzV0 HzV Hwv]
  · isplitl [HzB]; · iexact HzB
    isplitl [HzS0 HzS]
    · isplitl [HzS0] <;> iassumption
    isplitl [HzV0 HzV]
    · isplitl [HzV0] <;> iassumption
    iexact Hwv
  isplitl [Hb0 Hb Hxg Hwb]
  · isplitl [Hb0 Hb]
    · iexists (XB X c)
      rw [xb_blocks, bigSep_others c (at' c) (at_injective c) (at_ne c) (fun e => xbAt c e (XB X c))]
      isplitl [Hb0] <;> iassumption
    isplitl [Hxg]; · iexists _; iexact Hxg
    iexact Hwb
  isplitl [Hw]; · iexact Hw
  isplitl [Hx]; · iexact Hx
  isplitl [Hout] <;> iassumption

end Cert.Rowwise
-- ==== Proof.Deal.lean ====
/-
What the launch deals: the exchange's records, positions and tokens from its element, the credits from what all owe.
-/
module

public import proofs.«01_k».proof.Proof.Phases

@[expose] public section

set_option maxRecDepth 16384

noncomputable section

namespace Cert.Rowwise

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → S4096x256.Idx → Elt F .f32)

/-! ### The minted cells and tokens -/

theorem kcell_injective : Function.Injective (kcell : Dev nD × Kx → GSem nD τ sig) := fun ⟨c, k⟩ ⟨c', k'⟩ h =>
  Prod.ext (congrArg (fun g : GSem nD τ sig => g.1.1) h) (csem_injective (congrArg Prod.snd h))

def exCells : Finset (GSem nD τ sig) := Finset.univ.map ⟨kcell, kcell_injective⟩

/-- A device's cells' duties: one of its barrier per device, one of each send cell, one of each receive cell. -/
abbrev Tx : Type := Fin 16 ⊕ (Fin 16 ⊕ Fin 16)
abbrev tokOf (cj : Dev nD × Tx) : GSem nD τ sig × ℕ × Fin 16 := match cj.2 with
  | .inl b => (barCell cj.1, 0, b)
  | .inr (.inl s) => (sendCell cj.1 s, 0, 0)
  | .inr (.inr s) => (recvCell cj.1 s, 0, 0)

theorem tokOf_injective : Function.Injective (tokOf : Dev nD × Tx → GSem nD τ sig × ℕ × Fin 16) := by
  have hk (cj : Dev nD × Tx) : (tokOf cj).1 = kcell (cj.1, match cj.2 with | .inl _ => .inl () | .inr x => .inr x) := by
    obtain ⟨c, (b | s | s)⟩ := cj <;> rfl
  rintro ⟨c, j⟩ ⟨c', j'⟩ h
  have h1 := kcell_injective (((hk _).symm.trans (congrArg Prod.fst h)).trans (hk _))
  obtain rfl : c = c' := congrArg Prod.fst h1
  have h2 := congrArg Prod.snd h1
  refine congrArg (Prod.mk c) ?_
  rcases j with b | x <;> rcases j' with b' | x'
  · exact congrArg Sum.inl (congrArg (fun x : GSem nD τ sig × ℕ × Fin 16 => x.2.2) h)
  · cases h2
  · cases h2
  · exact congrArg Sum.inr (Sum.inr.inj h2)

def exToks : Finset (GSem nD τ sig × ℕ × Fin 16) := Finset.univ.map ⟨tokOf, tokOf_injective⟩

/-- The duty tokens of device `c`'s own cells. -/
def toks (c : Dev nD) : sProp 𝕄 :=
  iprop((bigSep Finset.univ fun b : Fin 16 => dutyTok ER (barCell c) 0 b) ∗ (bigSep Finset.univ fun s : Fin 16 => dutyTok ER (sendCell c s) 0 0)
    ∗ bigSep Finset.univ fun s : Fin 16 => dutyTok ER (recvCell c s) 0 0)

/-- What the launch element deals device `c`. -/
def dealt (c : Dev nD) : sProp 𝕄 :=
  iprop((bigSep Finset.univ fun k : Kx => roundState ER (exRd X) (kcell (c, k)) 0)
    ∗ (bigSep Finset.univ fun k : Kx => iprop(atPos ER (kcell (c, k)) 0 ∅ 0 ∗ reached ER (kcell (c, k)) 0)) ∗ toks c)

theorem fund_exchange : BI.own (ER (initOf exCells exToks)) ⊢ (|==> bigSep Finset.univ (dealt X) : sProp 𝕄) := by
  have hX (Φ : GSem nD τ sig → sProp 𝕄) : bigSep exCells Φ = bigSep Finset.univ fun c : Dev nD => bigSep Finset.univ fun k : Kx => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum, bigSep_univ_sum]; rfl
  iintro HX
  imod (Rounds.fund ER (exRd X) exCells exToks) $$ HX with ⟨Hst, Hr, Hat, Htok⟩
  imodintro
  ihave Hst' := (Entails.of_eq (hX fun g => roundState ER (exRd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-! ### The kernel's own semaphores -/

/-- The weights' three, the sends' sixteen, the receives' sixteen. -/
abbrev Ko : Type := Fin 3 ⊕ (Fin 16 ⊕ Fin 16)
abbrev osem : Ko → SemLoc sig := fun
  | .inl k => .dma (wS k)
  | .inr x => csem (.inr x)

theorem ownSemFacts : Pipeline.OwnSemFacts cfg0.spec osem := by decide +kernel

theorem ownSems_eq (c : Dev nD) : (Pipeline.ownSems0 (Ix := Unit) (Name := ℕ) (U := UU) (Lvl := ℕ) (Val := Elt F) (τ := τ) osem c : sProp 𝕄)
    = iprop((bigSep Finset.univ fun k : Fin 3 => wCell c k) ∗ (bigSep Finset.univ fun s : Fin 16 => semVal (sendCell c s) 0)
      ∗ bigSep Finset.univ fun s : Fin 16 => semVal (recvCell c s) 0) := by
  unfold Pipeline.ownSems0; rw [bigSep_univ_sum, bigSep_univ_sum]; rfl

theorem unscopedSems_eq (c : Dev nD) : (unscopedSems0 c : sProp 𝕄) = semVal (barCell c) 0 := by
  unfold unscopedSems0; rw [bigSep_eq_bigSepL_of_eq [SemLoc.reg barrier0] (by decide) (by decide)]; rfl

/-- A family over the cells of one device. -/
theorem bigSep_cells (Φ : Kx → sProp 𝕄) : bigSep Finset.univ Φ
    = iprop(Φ (.inl ()) ∗ (bigSep Finset.univ fun s : Fin 16 => Φ (.inr (.inl s))) ∗ bigSep Finset.univ fun s : Fin 16 => Φ (.inr (.inr s))) := by
  rw [bigSep_univ_sum, bigSep_univ_sum, show (Finset.univ : Finset Unit) = {()} from rfl, bigSep_singleton]; rfl

/-! ### The invariants opened, the tokens sent to who pays -/

/-- One device's cells become invariants. -/
theorem core_alloc (c : Dev nD) :
    iprop(Pipeline.ownSems0 (Ix := Unit) (Name := ℕ) (U := UU) (Lvl := ℕ) (Val := Elt F) (τ := τ) osem c ∗ unscopedSems0 c ∗ dealt X c)
      ⊢ |={Set.univ}=> iprop((bigSep Finset.univ fun k => iprop(∃ κ : ℕ, cellInv ER (exRd X) κ (kcell (c, k))))
          ∗ (bigSep Finset.univ fun k => iprop(atPos ER (kcell (c, k)) 0 ∅ 0 ∗ reached ER (kcell (c, k)) 0)) ∗ toks c
          ∗ bigSep Finset.univ fun k : Fin 3 => wCell c k) := by
  have hv : (bigSep Finset.univ fun k : Kx => (semVal (kcell (c, k)) 0 : sProp 𝕄)) = _ := bigSep_cells fun k : Kx => (semVal (kcell (c, k)) 0 : sProp 𝕄)
  have hi : iprop((bigSep Finset.univ fun k : Kx => semVal (kcell (c, k)) 0) ∗ bigSep Finset.univ fun k : Kx => roundState ER (exRd X) (kcell (c, k)) 0)
      ⊢ (|={Set.univ}=> bigSep Finset.univ fun k => iprop(∃ κ : ℕ, cellInv ER (exRd X) κ (kcell (c, k))) : sProp 𝕄) := by
    rw [← bigSep_sep']
    exact (bigSep_mono fun k _ => (Rounds.body_intro ER (exRd X) (kcell (c, k))).trans inv_alloc).trans (bigSep_fupd _ _)
  rw [ownSems_eq, unscopedSems_eq]
  unfold dealt
  iintro ⟨⟨Hw, HS, HV⟩, HB, Hst, Hat, Htok⟩
  imod hi $$ [HB HS HV Hst] with Hinv
  · isplitl [HB HS HV]
    · rw [hv]
      isplitl [HB]; · iexact HB
      isplitl [HS] <;> iassumption
    iexact Hst
  imodintro
  isplitl [Hinv]; · iexact Hinv
  isplitl [Hat]; · iexact Hat
  isplitl [Htok] <;> iassumption

/-- The duties that device `c` pays. -/
def payToks (c : Dev nD) : sProp 𝕄 :=
  iprop((bigSep Finset.univ fun p : Dev nD => dutyTok ER (barCell p) 0 c) ∗ (bigSep Finset.univ fun s : Fin 16 => dutyTok ER (sendCell c s) 0 0)
      ∗ bigSep Finset.univ fun e : Dev nD => dutyTok ER (recvCell e c) 0 0)

/-- Every barrier token to the device that signals, every receive token to the device that sends. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_univ_comm (fun (c : Dev nD) (b : Fin 16) => (dutyTok ER (barCell c) 0 b : sProp 𝕄)),
    bigSep_univ_comm (fun (c : Dev nD) (s : Fin 16) => (dutyTok ER (recvCell c s) 0 0 : sProp 𝕄))]

theorem with_shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What each device starts from: the records at some names, its positions and duties, the weights' semaphores at zero. -/
def ready (c : Dev nD) : sProp 𝕄 := iprop((∃ K, records X K ∗ deal c) ∗ bigSep Finset.univ fun k : Fin 3 => wCell c k)

theorem ready_intro (K : Dev nD × Kx → ℕ) (c : Dev nD) :
    iprop(records X K ∗ (bigSep Finset.univ fun k : Kx => atPos ER (kcell (c, k)) 0 ∅ 0) ∗ payToks c ∗ bigSep Finset.univ fun k : Fin 3 => wCell c k) ⊢ ready X c := by
  rw [bigSep_cells]
  unfold ready deal payToks
  iintro ⟨HR, Hat, Ht, Hw⟩
  isplitr [Hw]
  · iexists K
    isplitl [HR]; · iexact HR
    isplitl [Hat] <;> iassumption
  iexact Hw

theorem regroup :
    (bigSep Finset.univ fun c : Dev nD => iprop((bigSep Finset.univ fun k => iprop(∃ κ : ℕ, cellInv ER (exRd X) κ (kcell (c, k))))
          ∗ (bigSep Finset.univ fun k => iprop(atPos ER (kcell (c, k)) 0 ∅ 0 ∗ reached ER (kcell (c, k)) 0)) ∗ toks c
          ∗ bigSep Finset.univ fun k : Fin 3 => wCell c k) : sProp 𝕄)
      ⊢ bigSep Finset.univ (ready X) := by
  have hI := bigSep_univ_prod (fun ck : Dev nD × Kx => (iprop(∃ κ : ℕ, cellInv ER (exRd X) κ (kcell ck)) : sProp 𝕄))
  have hR := bigSep_univ_prod (fun ck : Dev nD × Kx => (reached ER (kcell ck) 0 : sProp 𝕄))
  have hA : (bigSep Finset.univ fun c : Dev nD => bigSep Finset.univ fun k : Kx => (iprop(atPos ER (kcell (c, k)) 0 ∅ 0 ∗ reached ER (kcell (c, k)) 0) : sProp 𝕄))
      = iprop((bigSep Finset.univ fun c : Dev nD => bigSep Finset.univ fun k : Kx => atPos ER (kcell (c, k)) 0 ∅ 0)
        ∗ bigSep Finset.univ fun c : Dev nD => bigSep Finset.univ fun k : Kx => reached ER (kcell (c, k)) 0) := by
    simp only [bigSep_sep']
  rw [bigSep_sep', bigSep_sep', bigSep_sep', hA]
  iintro ⟨HI, ⟨Hat, HR⟩, Htok, Hw⟩
  ihave HI := (Entails.of_eq hI.symm) $$ HI
  ihave HR := (Entails.of_eq hR.symm) $$ HR
  ihave HK := (BI.bigSep_exists_pi Finset.univ (fun (ck : Dev nD × Kx) (κ : ℕ) => (cellInv ER (exRd X) κ (kcell ck) : sProp 𝕄))) $$ HI
  icases HK with ⟨%K, HI⟩
  ihave Htk := (toks_around (F := F)) $$ Htok
  iapply (with_shared (R := records X K) fun c _ => ready_intro X K c)
  isplitl [HI HR]
  · unfold records; isplitl [HI] <;> iassumption
  rw [bigSep_sep', bigSep_sep']
  isplitl [Hat]; · iexact Hat
  isplitl [Htk] <;> iassumption

/-- All devices at once: from the semaphores at zero and the dealt element, what each starts from. -/
theorem all_ready : (bigSep Finset.univ fun c => iprop(Pipeline.ownSems0 (Ix := Unit) (Name := ℕ) (U := UU) (Lvl := ℕ) (Val := Elt F) (τ := τ) osem c ∗ unscopedSems0 c ∗ dealt X c) : sProp 𝕄)
    ⊢ |={Set.univ}=> bigSep Finset.univ (ready X) :=
  ((bigSep_mono fun c _ => core_alloc X c).trans (bigSep_fupd _ _)).trans (BI.fupd_mono (regroup X))

/-! ### The credits -/

theorem bar_inj {a b : Dev nD} (h : barCell a = barCell b) : a = b := congrArg (fun g : GSem nD τ sig => g.1.1) h
theorem recv_inj {a b : Dev nD} {s t : Fin 16} (h : recvCell a s = recvCell b t) : a = b ∧ s = t :=
  ⟨congrArg (fun g : GSem nD τ sig => g.1.1) h, recvS_inj (SemLoc.dma.inj (congrArg Prod.snd h))⟩
theorem bar_ne_recv (a b : Dev nD) (t : Fin 16) : barCell a ≠ recvCell b t := fun h => by cases congrArg Prod.snd h

theorem sum_tally (g : GSem nD τ sig) (f : Fin 15 → CellTallies nD τ sig Unit) :
    (∑ r : Fin 15, if 0 ≤ r.val then f r else 0) g () = ∑ r : Fin 15, f r g () := by
  rw [Finset.sum_apply, Finsupp.finset_sum_apply]
  exact Finset.sum_congr rfl fun r _ => by rw [if_pos (Nat.zero_le _)]

/-- Every device is fourteen-and-one others' neighbour. -/
theorem count_nb : ∀ c : Dev nD, (∑ d : Dev nD, ∑ r : Fin 15, if c = nb d r then 1 else 0) = 15 := by decide +kernel

/-- What all devices owe a barrier cell; -/
theorem owed_bar (c : Dev nD) : (∑ d : Dev nD, OB d 0 (barCell c) ()) = 15 := by
  rw [← count_nb c]
  refine Finset.sum_congr rfl fun d _ => ?_
  unfold OB OR
  rw [Pi.add_apply, Finsupp.add_apply, sum_tally, sum_tally, Finset.sum_eq_zero (fun r _ => ?_), zero_add]
  · refine Finset.sum_congr rfl fun r _ => ?_
    rw [tallyAt_apply]
    by_cases h : c = nb d r
    · rw [if_pos ⟨by rw [h], rfl⟩, if_pos h]
    · rw [if_neg (fun h' => h (bar_inj h'.1)), if_neg h]
  · rw [tallyAt_apply, if_neg fun h' => bar_ne_recv _ _ _ h'.1]

/-- and a receive cell: its block's credit, from that block's device. -/
theorem owed_recv (c : Dev nD) (r₀ : Fin 15) : (∑ d : Dev nD, OB d 0 (recvCell c (at' c r₀)) ()) = NX := by
  have hd (d : Dev nD) : OB d 0 (recvCell c (at' c r₀)) () = ∑ r : Fin 15, if c = at' d r ∧ at' c r₀ = d then NX else 0 := by
    unfold OB OR
    rw [Pi.add_apply, Finsupp.add_apply, sum_tally, sum_tally, Finset.sum_eq_zero (f := fun r => tallyAt (barCell (nb d r)) () 1 (recvCell c (at' c r₀)) ()) (fun r _ => ?_), add_zero]
    · refine Finset.sum_congr rfl fun r _ => ?_
      rw [tallyAt_apply]
      by_cases h : c = at' d r ∧ at' c r₀ = d
      · rw [if_pos h, if_pos ⟨by show recvCell c (at' c r₀) = recvCell (at' d r) d; rw [← h.1, h.2], rfl⟩]
      · rw [if_neg h, if_neg fun h' => h (recv_inj h'.1)]
    · rw [tallyAt_apply, if_neg fun h' => bar_ne_recv _ _ _ h'.1.symm]
  have hmem : c ∈ Finset.univ.map ⟨at' (at' c r₀), at_injective (at' c r₀)⟩ := by
    rw [← erase_eq (at' c r₀) (at' (at' c r₀)) (at_injective _) (at_ne _)]
    exact Finset.mem_erase.mpr ⟨(at_ne c r₀).symm, Finset.mem_univ _⟩
  obtain ⟨r, -, hr⟩ := Finset.mem_map.mp hmem
  have hr : at' (at' c r₀) r = c := hr
  rw [Finset.sum_congr rfl fun d _ => hd d, Finset.sum_eq_single (at' c r₀) (fun d _ hne => Finset.sum_eq_zero fun r _ => if_neg fun h => hne h.2.symm)
    (fun h => absurd (Finset.mem_univ _) h), Finset.sum_eq_single r (fun r' _ hne => if_neg fun h => hne (at_injective (at' c r₀) (h.1.symm.trans hr.symm)))
    (fun h => absurd (Finset.mem_univ _) h), if_pos ⟨hr.symm, rfl⟩]

theorem launch_bar (c : Dev nD) :
    tallyOn (barCell c) (launchCredit (Pipeline.owing fun c => OB c 0) 0 (barCell c)) = (tallyAt (barCell c) () 15 : CellTallies nD τ sig Unit) := by
  unfold tallyAt; refine congrArg _ (Finsupp.ext fun u => ?_); cases u
  rw [Pipeline.launchCredit_owing, Finsupp.single_eq_same, owed_bar]

theorem launch_recv (c : Dev nD) (r : Fin 15) :
    tallyOn (recvCell c (at' c r)) (launchCredit (Pipeline.owing fun c => OB c 0) 0 (recvCell c (at' c r)))
      = (tallyAt (recvCell c (at' c r)) () NX : CellTallies nD τ sig Unit) := by
  unfold tallyAt; refine congrArg _ (Finsupp.ext fun u => ?_); cases u
  rw [Pipeline.launchCredit_owing, Finsupp.single_eq_same, owed_recv]

/-- What the devices owe at launch gives each device the credits that it waits with. -/
theorem creds_intro (c : Dev nD) : (Pipeline.launchCred (fun c => OB c 0) c : sProp 𝕄) ⊢ creds c := by
  have hi : Set.InjOn (fun r : Fin 15 => (SemLoc.dma (recvS (at' c r)) : SemLoc sig)) (Finset.univ : Finset (Fin 15)) :=
    fun r _ r' _ h => at_injective c (recvS_inj (SemLoc.dma.inj h))
  unfold Pipeline.launchCred creds
  rw [bigSep_univ_at _ (SemLoc.reg barrier0), launch_bar]
  refine sep_mono_right ?_
  rw [bigSep_congr (s := Finset.univ) (fun r _ => congrArg cred (launch_recv c r).symm)]
  rw [← bigSep_image_of_injOn (f := fun r : Fin 15 => (SemLoc.dma (recvS (at' c r)) : SemLoc sig)) hi
    (fun sm : SemLoc sig => (cred (tallyOn ((c : Thread nD τ), sm) (launchCredit (Pipeline.owing fun c => OB c 0) 0 ((c : Thread nD τ), sm))) : sProp 𝕄))]
  refine bigSep_subset fun sm hsm => ?_
  obtain ⟨r, -, rfl⟩ := Finset.mem_image.mp hsm
  exact Finset.mem_erase.mpr ⟨(fun h => by cases h), Finset.mem_univ _⟩

end Cert.Rowwise
-- ==== Proof.Run.lean ====
/-
The launch: the body's obligation, and the whole program run from any memory with its semaphores at zero.
-/
module

public import proofs.«01_k».proof.Proof.Deal
public import Idealize.ShloMosaic.Lib.Pipeline.CollectiveSegs
public import Idealize.ShloMosaic.Lib.Quiescent
public import proofs.«01_k».proof.Proof.Gen.KernelIdeal.Launch

@[expose] public section

set_option maxRecDepth 16384

noncomputable section

namespace Cert.Rowwise

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The start: memory `m`, every semaphore at zero. -/
abbrev s₀ : MemSt nD τ sig (Elt F) := ⟨m, fun _ => 0, ρ⟩

/-- Each device's columns of `x`, as its window reads them; each device's copy of `w`. -/
def Xm (c : Dev nD) : S4096x256.Idx → Elt F .f32 := (win0_0.blk (0 : Fin 1)).view.read (Elt F) (m ((c : Thread nD τ).loc main_arg0))
def Wm (c : Dev nD) : S4096x8192.Idx → Elt F .f32 := m ((c : Thread nD τ).loc main_arg1)

/-- What device `c`'s body starts from, besides its scratch; -/
def start (c : Dev nD) : sProp 𝕄 :=
  iprop(ready (Xm m) c ∗ creds c ∗ levAts L lv ∗ (((c : Thread nD τ).loc main_arg1) ↦{fullShare} Wm m c))
def Φ₀ (c : Dev nD) : sProp 𝕄 := iprop(start m c ∗ bufs c)
/-- and what it leaves. -/
def Φ₁ (c : Dev nD) : sProp 𝕄 := iprop(zeros c ∗ bufs c ∗ (((c : Thread nD τ).loc main_arg1) ↦{fullShare} Wm m c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xm m c
    | ⟨1, _⟩ => outV (Xm m) (Wm m) c
  Φ t := match t with
    | ⟨0, _⟩ => Φ₀ m c
    | ⟨_ + 1, _⟩ => Φ₁ m c
  q _ := fullShare
  owed t := match t with
    | ⟨0, _⟩ => OB c 0
    | ⟨_ + 1, _⟩ => 0

/-! ### The body's obligation -/

theorem fetch_0 (t : Fin cfg0.N) : (cfg0.win (0 : Fin 2)).fetch t = true := by rw [fin_N0 t]; rfl

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) ((c : Thread nD τ).loc b), ⌜f = Y⌝ ∗ (((c : Thread nD τ).loc b) ↦{fullShare} f)) := by
  unfold owns; simp only [Memref.view_whole, View.read_whole, View.set_whole]

/-- A staging buffer held at known contents. -/
abbrev stgAt (c : Dev nD) (b : Ref sig .tc) (Y : b.ty.Contents (Elt F)) : sProp 𝕄 :=
  iprop(∃ f : Buf (Elt F) ((c : Thread nD τ).loc b), ⌜f = Y⌝ ∗ (((c : Thread nD τ).loc b) ↦{fullShare} f))

def obPre (c : Dev nD) : sProp 𝕄 :=
  iprop(Φ₀ m c ∗ (dats m ρ 0 c).owesAt () t0_0.castSucc
    ∗ (∃ d, stgAt c cc0_stg0_0 ((dats m ρ 0 c).before (0 : Fin 2) t0_0 d))
    ∗ (∃ d, stgAt c cc0_stg1_0 ((dats m ρ 0 c).before (1 : Fin 2) t0_0 d)))

def obPost (c : Dev nD) : sProp 𝕄 :=
  iprop(Φ₁ m c ∗ (dats m ρ 0 c).owesAt () t0_0.succ ∗ stgAt c cc0_stg0_0 (Xm m c) ∗ stgAt c cc0_stg1_0 (outV (Xm m) (Wm m) c))

theorem ob_in (c : Dev nD) : obPre m ρ c ⊢ iprop(∃ K, bodyIn (Xm m) (Wm m) K c) := by
  unfold obPre Φ₀ start ready bodyIn owesS Dat.owesAt Pipeline.owesWithin
  iintro ⟨⟨⟨⟨⟨%K, HR, Hd⟩, Hw⟩, Hc, Hl, Ha⟩, Hb⟩, ⟨%W, -, HO⟩, ⟨%d0, %g0, %hg0, Hx⟩, ⟨%d1, %g1, -, Hout⟩⟩
  have hx : g0 = Xm m c := by rw [hg0]; unfold Dat.before; rw [if_pos (fetch_0 t0_0)]; rfl
  subst hx
  iexists K
  isplitl [HR]; · iexact HR
  isplitl [Hl]; · iexact Hl
  isplitl [Hd]; · iexact Hd
  isplitl [Hc]; · iexact Hc
  isplitl [Hw]; · iexact Hw
  isplitl [Hb]; · iexact Hb
  isplitl [Ha]; · iexact Ha
  isplitl [Hx]; · iexact Hx
  isplitl [Hout]; · iexists g1; iexact Hout
  iexists W; iexact HO

theorem ob_out (c : Dev nD) : bodyOut (Xm m) (Wm m) c ⊢ obPost m ρ c := by
  unfold obPost Φ₁ bodyOut owesS Dat.owesAt Pipeline.owesWithin
  iintro ⟨Hz, Hb, Ha, Hx, Hout, ⟨%W, HO⟩⟩
  isplitl [Hz Hb Ha]
  · isplitl [Hz]; · iexact Hz
    isplitl [Hb]; · iexact Hb
    iexact Ha
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

theorem ob_body (c : Dev nD) : obPre m ρ c ⊢ WP c body (fun _ => obPost m ρ c) := by
  iintro H
  ihave H := (ob_in m ρ c) $$ H
  icases H with ⟨%K, H⟩
  iapply (wp_wand_r _ _ _)
  isplitl [H]
  · iapply (wp_body (Xm m) (Wm m) K c); iexact H
  iintro %_ H
  iapply (ob_out m ρ c); iexact H

/-- The body's obligation on each device. -/
theorem obligation (c : Dev nD) : BodyObligation (dats (F := F) m ρ 0 c) (defs₀ (F := F)) 𝒱₀ () Set.univ := fun t => by
  rw [fin_N0 t]
  rw [bigSep_W0, bigSep_W0]
  simp only [owns_whole_eq]
  show obPre m ρ c ⊢ wp frame (wpE (defs₀ (F := F)) 𝒱₀ c none) Set.univ
    (cc0_body (Memref.whole cc0_stg0_0) (Memref.isWhole_whole _) (Memref.whole main_arg1) (Memref.isWhole_whole _)
      (Memref.whole cc0_stg1_0) (Memref.isWhole_whole _) (Memref.whole cc0_scratch0) (Memref.isWhole_whole _) (Memref.whole cc0_scratch1)
      (Memref.isWhole_whole _) (Memref.whole cc0_scratch2) (Memref.isWhole_whole _) cc0_scratch3 cc0_scratch4 cc0_scratch5) (fun _ => obPost m ρ c)
  rw [body_eq]
  exact ob_body m ρ c

/-! ### The launch's side conditions -/

theorem share_full (c : Dev nD) (w : Fin cfg0.W) : (dats m ρ 0 c).share w = fullShare := by unfold Dat.share; split <;> rfl

/-- The launch element: the pipeline's, the exchange's, no counter yet. -/
def u₀ : UU :=
  (initOf (Pipeline.cells cfgs cellOf_inj) (Pipeline.launchToks cfgs cellOf_inj), (initOf exCells exToks, (1 : Counters)))

theorem fund_launch : (ownU u₀ : sProp 𝕄) ⊢ |={Set.univ}=> iprop(BI.own (EP (initOf (Pipeline.cells cfgs cellOf_inj) (Pipeline.launchToks cfgs cellOf_inj)))
    ∗ bigSep Finset.univ (dealt (Xm m))) := by
  unfold u₀
  iintro Hu
  ihave H := (ownU_pair _ _) $$ Hu
  icases H with ⟨HP, HX⟩
  ihave HX := (own_pair_emb _ _ _) $$ HX
  icases HX with ⟨HX, -⟩
  imod (fund_exchange (Xm m)) $$ [HX] with HG
  · unfold ER; iexact HX
  imodintro
  isplitl [HP] <;> iassumption

theorem start_intro (c : Dev nD) :
    iprop(Pipeline.unscopedRestP Pipeline.Prefetch.none cfg0.spec c (fun b => m ((c : Thread nD τ).loc b)) ∗ levAts L lv
        ∗ Pipeline.launchCred (fun c => OB c 0) c ∗ prngReg c (ρ c) ∗ ready (Xm m) c)
      ⊢ |={Set.univ}=> iprop(start m c ∗ emp) := by
  have hR : (Pipeline.unscopedRestP Pipeline.Prefetch.none cfg0.spec c (fun b => m ((c : Thread nD τ).loc b)) : sProp 𝕄)
      = iprop(((c : Thread nD τ).loc main_arg1) ↦{fullShare} Wm m c) := (Pipeline.unscopedRestP_none cfg0.spec c _).trans (unscopedRest0_eq c _)
  rw [hR]
  iintro ⟨Ha, Hlev, Hcr, -, HG⟩
  ihave Hc := (creds_intro (F := F) c) $$ Hcr
  imodintro
  unfold start
  isplitl
  · isplitl [HG]; · iexact HG
    isplitl [Hc]; · iexact Hc
    isplitl [Hlev]; · iexact Hlev
    iexact Ha
  · iempintro

theorem start_phi (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs
  iintro ⟨Hs, -, Hr⟩
  isplitl [Hs] <;> iassumption

/-- What each device holds at the end: its barrier at zero, its copy of `w` as it was. -/
def left (c : Dev nD) : sProp 𝕄 := iprop(unscopedSems0 c ∗ (((c : Thread nD τ).loc main_arg1) ↦{fullShare} Wm m c))

theorem phi_left (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, scopedRest0_eq, ownSems_eq]
  unfold Φ₁ left zeros bufs
  rw [unscopedSems_eq]
  iintro ⟨⟨HB, HS, HV, HW⟩, Hb, Ha⟩
  isplitl [HB Ha]
  · isplitl [HB] <;> iassumption
  isplitl [HS HV HW]
  · isplitl [HW]; · iexact HW
    isplitl [HS] <;> iassumption
  iexact Hb

theorem stage_waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What is read at the end besides the windows' arrays. -/
def Read (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)

theorem left_read (c : Dev nD) (s' : Phys nD τ sig (Elt F)) :
    iprop(left m c ∗ emp ∗ SI s') ⊢ |={Set.univ}=> iprop(⌜Read m c s'.mem⌝ ∗ SI s' : sProp 𝕄) := by
  have hp := pointsTo_read_all (Ix := Unit) (Name := ℕ) (U := UU) (Lvl := ℕ) ({()} : Finset Unit) (fun _ => (c : Thread nD τ).loc main_arg1) (fun _ => Wm m c) s'
  rw [bigSep_singleton] at hp
  unfold left
  iintro ⟨⟨Hu, Ha⟩, -, HSI⟩
  ihave Hp := hp $$ [Ha HSI]
  · isplitl [Ha] <;> iassumption
  icases Hp with ⟨%h, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨hs, h () (Finset.mem_singleton_self _)⟩
  iexact HSI

/-! ### The run -/

def finalA (c : Dev nD) (w : Fin cfg0.W) : Buf (Elt F) ((cfg0.win w).arr.view.loc (c : Thread nD τ)) := (dats m ρ 0 c).arrAt w cfg0.N

/-- From any memory with every semaphore at zero, every fair execution of the program ends with each window's array
    as computed, each device's copy of `w` as it was, every semaphore at zero. -/
theorem run_main : θ_run defs (onTc (τ := τ) (main (F := F))) (s₀ m ρ) (fun r =>
    (∀ c : Dev nD, (∀ w : Fin cfg0.W, r.2.mem ((cfg0.win w).arr.view.loc (c : Thread nD τ)) = finalA m ρ c w)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := obligation m ρ) (hne := fun w => by fin_cases w <;> exact Nat.succ_pos _) (harr := arr_whole0) (hstage := stage_whole0) (hshare := share_full m ρ)
    (hdistinct := winFacts0.arr_inj)
    (O₀ := fun c => OB c 0) (howed₀ := fun _ => rfl) (howedN := fun _ => rfl)
    (L := L) (lv := lv) (hL := L_of_ne) (hwaits := stage_waits m ρ)
    (G := dealt (Xm m)) (G' := ready (Xm m)) (u₀ := u₀) (hu₀ := fund_launch m) (hglob := all_ready (Xm m))
    (hA := fun _ _ => rfl) (hpf := fun _ k => k.elim0)
    (X := start m) (Y := left m) (Z := fun _ => iprop(emp))
    (hX := start_intro m ρ) (hin := start_phi m ρ) (hout := phi_left m ρ)
    (QY := Read m) (hY := left_read m)
    (hQ := fun _ h hs => ⟨fun c => ⟨fun w => (h c).1 w, (h c).2.2.2⟩, sem_eq_zero hs fun c => (h c).2.2.1⟩)

end Cert.Rowwise
-- ==== Proof.Value.lean ====
/-
What each device computes in exact arithmetic: its rows of the product with negative entries replaced by zero.
-/
module

public import proofs.«01_k».proof.Proof.Contents
public import Idealize.ShloMosaic.Lib.MatmulPlain
public import Idealize.ShloMosaic.Lib.Pointwise
public import Idealize.ShloMosaic.PureOps.Ideal

@[expose] public section

set_option maxRecDepth 16384

noncomputable section

namespace Cert.Rowwise

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → S4096x256.Idx → Elt Ideal .f32) (Wt : Dev nD → S4096x8192.Idx → Elt Ideal .f32)

/-- One step's product at a row and a column. -/
def prodAt (a : Vec Ideal S1x256x256 .bf16) (w : Vec Ideal S1x256x8192 .f32) (p : Fin 256) (q : Fin 8192) : EReal :=
  ∑ k : Fin 256, (a (ix3 0 p k) : EReal) * (w (ix3 0 k q) : EReal)

theorem first_apply (a : Vec Ideal S1x256x256 .bf16) (w : Vec Ideal S1x256x8192 .f32) (p : Fin 256) (q : Fin 8192) :
    k0_pay3 a w (ix2 p q) = prodAt a w p q := by
  unfold k0_pay3 prodAt
  pointwise

theorem later_apply (a : Vec Ideal S1x256x256 .bf16) (w : Vec Ideal S1x256x8192 .f32) (o : Vec Ideal S256x8192 .f32) (p : Fin 256) (q : Fin 8192) :
    k0_pay5 a w o (ix2 p q) = (o (ix2 p q) : EReal) + prodAt a w p q := by
  unfold k0_pay5 prodAt
  pointwise

theorem last_apply (a : Vec Ideal S1x256x256 .bf16) (w : Vec Ideal S1x256x8192 .f32) (o : Vec Ideal S256x8192 .f32) (p : Fin 256) (q : Fin 8192) :
    k0_pay26 a w o (ix2 p q) = max ((o (ix2 p q) : EReal) + prodAt a w p q) 0 := by
  unfold k0_pay26 prodAt
  pointwise

/-- The exact copy in the narrower format is the block itself. -/
theorem XB_apply (c : Dev nD) (i : S4096x256.Idx) : (XB X c i : EReal) = X c i := by
  unfold XB k0_pay1
  pointwise

/-- Block `s`'s part of device `c`'s row `p`, column `q`. -/
def part (c : Dev nD) (p : Fin 256) (q : Fin 8192) (s : Fin 16) : EReal :=
  ∑ k : Fin 256, (X s (ix2 (row c p) k) : EReal) * (Wt c (ix2 (row s k) q) : EReal)

theorem prod_blk (c : Dev nD) (s : Fin 16) (p : Fin 256) (q : Fin 8192) : prodAt (aBlk X c s) (wBlk Wt c s) p q = part X Wt c p q s := by
  unfold prodAt part
  refine Finset.sum_congr rfl fun k _ => ?_
  rw [show (aBlk X c s (ix3 0 p k) : EReal) = XB X s (ix2 (row c p) k) from rfl, XB_apply]
  rfl

/-- After `n` steps, `n` from 1 to 15, the output holds the first `n` blocks' parts. -/
theorem acc_apply (c : Dev nD) (p : Fin 256) (q : Fin 8192) : ∀ n : ℕ, 0 < n → n ≤ 15 →
    (acc X Wt c n (ix2 p q) : EReal) = ∑ t ∈ Finset.range n, part X Wt c p q (ord c (Fin.ofNat 16 t))
  | 0, h, _ => absurd h (lt_irrefl 0)
  | 1, _, _ => by
    rw [Finset.sum_range_one, ← prod_blk, ← first_apply]; rfl
  | n + 2, _, h => by
    rw [Finset.sum_range_succ, ← acc_apply c p q (n + 1) (Nat.succ_pos n) (by omega), ← prod_blk, ← later_apply]
    rw [acc, upd, if_neg (Nat.succ_ne_zero n), if_neg (by omega)]

/-- The output's row `p`, column `q` at the end. -/
theorem out_apply (c : Dev nD) (p : Fin 256) (q : Fin 8192) :
    (outV X Wt c (ix2 p q) : EReal) = max (∑ s : Fin 16, part X Wt c p q s) 0 := by
  have h : (∑ s : Fin 16, part X Wt c p q s) = ∑ t ∈ Finset.range 16, part X Wt c p q (ord c (Fin.ofNat 16 t)) := by
    rw [← Equiv.sum_comp (ordE c), Finset.sum_range]
    refine Finset.sum_congr rfl fun t _ => ?_
    rw [ordE_apply, show Fin.ofNat 16 t.val = t from Fin.ext (Nat.mod_eq_of_lt t.isLt)]
  rw [h, Finset.sum_range_succ, ← acc_apply X Wt c p q 15 (by omega) (le_refl 15), ← prod_blk, ← last_apply]
  unfold outV
  rw [acc, upd, if_neg (by omega), if_pos rfl]

/-- A sum over all columns of `x` is the sum over the sixteen devices of the sums over theirs. -/
theorem sum_rows (g : Fin 4096 → EReal) : ∑ k : Fin 4096, g k = ∑ s : Fin 16, ∑ k : Fin 256, g (row s k) := by
  rw [← Fintype.sum_prod_type' (fun s k => g (row s k))]
  refine (Fintype.sum_equiv (finProdFinEquiv (m := 16) (n := 256)) _ _ fun x => congrArg g (Fin.ext ?_)).symm
  show 256 * x.1.val + x.2.val = x.2.val + 256 * x.1.val
  omega

end Cert.Rowwise
-- ==== Proof.End.lean ====
/-
The arrays at the end of the run, and the kernel's result against the plain product's.
-/
module

public import proofs.«01_k».proof.Proof.Run
public import proofs.«01_k».proof.Proof.Value
public import proofs.«01_k».proof.Proof.Gen.ReferenceIdeal.Run
public import Idealize.ShloMosaic.Lib.Pipeline.ValueKit.Geometry
public import Idealize.ShloMosaic.Lib.Layout

@[expose] public section

set_option maxRecDepth 16384

noncomputable section

namespace Cert.Rowwise

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Arrays

variable (m : (ℓ : Loc nD τ sig) → Buf (Elt F) ℓ) (ρ : Dev nD → PrngReg)

/-- The window of `x` is all of a device's columns. -/
theorem Xm_eq (c : Dev nD) : Xm m c = m ((c : Thread nD τ).loc main_arg0) := by
  funext i
  show m ((c : Thread nD τ).loc main_arg0) ((win0_0.rect (0 : Fin 1)).emb i) = m ((c : Thread nD τ).loc main_arg0) i
  refine congrArg _ (funext fun a => Fin.ext ?_)
  exact win0_0.rect_emb_val_of_index_zero t0_0 a (by fin_cases a <;> rfl) i

/-- `x` is as it was; -/
theorem finalA_x (c : Dev nD) : finalA m ρ c (0 : Fin 2) = m ((c : Thread nD τ).loc main_arg0) :=
  (dats (F := F) m ρ 0 c).arrAt_in (0 : Fin 2) rfl _

/-- the result is what the body computed. -/
theorem finalA_out (c : Dev nD) : finalA m ρ c (1 : Fin 2) = outV (Xm m) (Wm m) c :=
  (dats (F := F) m ρ 0 c).arrAt_eq_of_after_last (1 : Fin 2) t0_0 (by decide +kernel) _ fun _ => rfl

/-- The run, buffer by buffer. -/
theorem run_bufs : θ_run defs (onTc (τ := τ) (main (F := F))) (s₀ m ρ) (fun r =>
    (∀ c : Dev nD, r.2.mem ((c : Thread nD τ).loc main_v1) = outV (Xm m) (Wm m) c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨((h.1 c).1 (1 : Fin 2)).trans (finalA_out m ρ c),
    ((h.1 c).1 (0 : Fin 2)).trans (finalA_x m ρ c), (h.1 c).2⟩, h.2⟩) (run_main m ρ)

end Arrays

/-- The reference's result at row `r`, column `q`. -/
theorem plain_apply (x : ReferenceIdeal.S4096x4096.Idx → Elt Ideal .f32) (w : ReferenceIdeal.S4096x8192.Idx → Elt Ideal .f32) (r : Fin 4096) (q : Fin 8192) :
    (maximumf (Host.dotGeneral (F := Ideal) (φ₁ := .f32) (φ₂ := .f32) ReferenceIdeal.dot_S4096x4096_S4096x8192_S4096x8192_1_0_0_1_n_n none x w)
      (broadcastInDim ReferenceIdeal.S4096x8192 ![] ReferenceIdeal.Facts₀.bcast_S_S4096x8192 (constant ReferenceIdeal.S_ .f32 0x00000000#32)) (ix2 r q) : EReal)
      = max (∑ k : Fin 4096, (x (ix2 r k) : EReal) * (w (ix2 k q) : EReal)) 0 := by
  pointwise

/-- Each device's result is its rows of the reference's, when its argument is its columns of the reference's. -/
theorem out_block (m : (ℓ : Loc nD τ sig) → Buf (Elt Ideal) ℓ)
    (x : ReferenceIdeal.S4096x4096.Idx → Elt Ideal .f32) (w : ReferenceIdeal.S4096x8192.Idx → Elt Ideal .f32)
    (hx : ∀ c : Dev nD, m ((c : Thread nD τ).loc main_arg0) = Layout.block ⟨2, ![4096, 256]⟩ ⟨2, ![4096, 4096]⟩ 1 16 c x)
    (hw : ∀ c : Dev nD, m ((c : Thread nD τ).loc main_arg1) = w) (c : Dev nD) :
    outV (Xm m) (Wm m) c = Layout.block ⟨2, ![256, 8192]⟩ ⟨2, ![4096, 8192]⟩ 0 16 c
      (maximumf (Host.dotGeneral (F := Ideal) (φ₁ := .f32) (φ₂ := .f32) ReferenceIdeal.dot_S4096x4096_S4096x8192_S4096x8192_1_0_0_1_n_n none x w)
        (broadcastInDim ReferenceIdeal.S4096x8192 ![] ReferenceIdeal.Facts₀.bcast_S_S4096x8192 (constant ReferenceIdeal.S_ .f32 0x00000000#32))) := by
  have hr (h : Layout.Tiles ⟨2, ![256, 8192]⟩ ⟨2, ![4096, 8192]⟩ 0 16) (p : Fin 256) (q : Fin 8192) : h.idx c (ix2 p q) = ix2 (row c p) q := by
    funext a; refine Fin.ext ?_
    match a with
    | ⟨0, _⟩ => exact (Layout.idx_rows_val h c (ix2 p q)).1.trans (congrArg (· + p.val) (Nat.mul_comm _ _))
    | ⟨1, _⟩ => exact (Layout.idx_rows_val h c (ix2 p q)).2
  have hc (h : Layout.Tiles ⟨2, ![4096, 256]⟩ ⟨2, ![4096, 4096]⟩ 1 16) (s : Fin 16) (r : Fin 4096) (k : Fin 256) : h.idx s (ix2 r k) = ix2 r (row s k) := by
    funext a; refine Fin.ext ?_
    match a with
    | ⟨0, _⟩ => exact (Layout.idx_cols_val h s (ix2 r k)).1
    | ⟨1, _⟩ => exact (Layout.idx_cols_val h s (ix2 r k)).2.trans (congrArg (· + k.val) (Nat.mul_comm _ _))
  funext i
  obtain ⟨p, q, rfl⟩ : ∃ p q, i = ix2 p q := ⟨i 0, i 1, eq_ix2 i⟩
  rw [Layout.block_apply, hr]
  refine (out_apply (Xm m) (Wm m) c p q).trans (Eq.trans ?_ (plain_apply x w (row c p) q).symm)
  rw [sum_rows]
  refine congrArg (max · 0) (Finset.sum_congr rfl fun s _ => ?_)
  unfold part
  refine Finset.sum_congr rfl fun k _ => ?_
  rw [Xm_eq, hx, Layout.block_apply, hc]
  unfold Wm
  rw [hw]

end Cert.Rowwise
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.End
public import Idealize.ShloMosaic.Adequacy
public import Idealize.ShloMosaic.Init

@[expose] public section

noncomputable section

namespace Cert.Proof

open Idealize.ShloMosaic Idealize.SL.Sem Cert.Kernel

variable {F : FTy → Type} [FloatOps F]

/-- The two programs have the same text, and so the same bodies, -/
theorem tables_same₀ : Cert.KernelIdeal.defs₀ (F := F) = Cert.Kernel.defs₀ (F := F) := by
  refine congrArg Defs.onTc (funext fun l => funext fun a => ?_)
  match l, a with
  | 0, (t, s) => rfl
  | ⟨_ + 1, h⟩, _ => exact absurd h (Nat.not_lt.2 (Nat.le_add_left _ _))

/-- the pipelines' included. -/
theorem tables_same : Cert.KernelIdeal.defs (F := F) = Cert.Kernel.defs (F := F) :=
  congrArg (Pipeline.defs Cert.KernelIdeal.pcfgs) tables_same₀

/-- The kernel runs in float arithmetic, leaving its arguments and every semaphore as they were. -/
theorem frame_kernel : Cert.quiescent_Kernel := fun m ρ _ => by
  have h := (θ_run (Cert.KernelIdeal.defs (F := Bits)) _ _).mono (fun r h => And.intro (fun c => (h.1 c).2) h.2) (Cert.Rowwise.run_bufs (F := Bits) m ρ)
  rw [tables_same] at h
  exact h

/-- The same in exact arithmetic. -/
theorem frame_kernelIdeal : Cert.quiescent_KernelIdeal := fun m ρ _ =>
  (θ_run Cert.KernelIdeal.defs _ _).mono (fun _ h => ⟨fun c => (h.1 c).2, h.2⟩) (Cert.Rowwise.run_bufs (F := Ideal) m ρ)

/-- The reference runs, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- In exact arithmetic each device ends with its rows of the reference's result. -/
theorem algebraic : Cert.algebraic_KernelIdeal_ReferenceIdeal := fun m ρ m' ρ' _ hag =>
  ⟨_, (θ_run Cert.KernelIdeal.defs _ _).mono (fun _ h c => ⟨(h.1 c).1.trans (Cert.Rowwise.out_block m _ _ (fun c => (hag c).1) (fun c => (hag c).2) c), (h.1 c).2⟩)
      (Cert.Rowwise.run_bufs (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
